-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_in_range [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_experts_in_range [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_experts_in_range [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_experts_in_range : Cert.Pre_experts_in_range.Facts),
    quiescent_Kernel (hKernel := hKernel)
    ∧ quiescent_KernelIdeal (hKernelIdeal := hKernelIdeal)
    ∧ quiescent_KernelIdeal_pre_experts_in_range (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ preserves_Kernel_KernelIdeal
    ∧ algebraic_KernelIdeal_ReferenceIdeal_pre_experts_in_range (hKernelIdeal := hKernelIdeal) (hReferenceIdeal := hReferenceIdeal) (hPre_experts_in_range := hPre_experts_in_range)
-- ==== Pre_experts_in_range.lean ====
abbrev S4x384x4096 : Shape := ⟨3, ![4, 384, 4096]⟩
abbrev S4096x11008 : Shape := ⟨2, ![4096, 11008]⟩
abbrev S11008 : Shape := ⟨1, ![11008]⟩
abbrev S4096x8 : Shape := ⟨2, ![4096, 8]⟩
abbrev S8 : Shape := ⟨1, ![8]⟩
abbrev S4x384x2 : Shape := ⟨3, ![4, 384, 2]⟩
abbrev S8x4096x16 : Shape := ⟨3, ![8, 4096, 16]⟩
abbrev S8x16x11008 : Shape := ⟨3, ![8, 16, 11008]⟩
abbrev S4096x16 : Shape := ⟨2, ![4096, 16]⟩
abbrev S16x11008 : Shape := ⟨2, ![16, 11008]⟩
abbrev S_ : Shape := ⟨0, ![]⟩

class Facts : Prop where
  bcast_S_S4x384x2 : S_.BroadcastsInDim S4x384x2 (![] : Fin 0 → Fin S4x384x2.rank)

variable [Facts]

def fn {F : FTy → Type} [FloatOps F] (main_arg0 : FVec F S4x384x4096 .bf16) (main_arg1 : FVec F S4096x11008 .fp8e4m3) (main_arg2 : FVec F S11008 .f32) (main_arg3 : FVec F S4096x8 .bf16) (main_arg4 : FVec F S8 .f32) (main_arg5 : IVec S4x384x2 32) (main_arg6 : FVec F S8x4096x16 .bf16) (main_arg7 : FVec F S8x16x11008 .bf16) (main_arg8 : FVec F S4096x16 .bf16) (main_arg9 : FVec F S16x11008 .bf16) : IVec S4x384x2 1 :=
  let main_c : IVec S_ 32 := constantI S_ 32 0#32
  let main_v0 : IVec S4x384x2 32 := broadcastInDim S4x384x2 ![] bcast_S_S4x384x2 main_c
  let main_v1 : IVec S4x384x2 1 := cmpi .sge main_arg5 main_v0
  let main_c_0 : IVec S_ 32 := constantI S_ 32 8#32
  let main_v2 : IVec S4x384x2 32 := broadcastInDim S4x384x2 ![] bcast_S_S4x384x2 main_c_0
  let main_v3 : IVec S4x384x2 1 := cmpi .slt main_arg5 main_v2
  let main_v4 : IVec S4x384x2 1 := andi main_v1 main_v3
  main_v4
-- ==== Kernel.lean ====
abbrev S4x384x4096 : Shape := ⟨3, ![4, 384, 4096]⟩
abbrev S4096x11008 : Shape := ⟨2, ![4096, 11008]⟩
abbrev S11008 : Shape := ⟨1, ![11008]⟩
abbrev S4096x8 : Shape := ⟨2, ![4096, 8]⟩
abbrev S8 : Shape := ⟨1, ![8]⟩
abbrev S4x384x2 : Shape := ⟨3, ![4, 384, 2]⟩
abbrev S8x4096x16 : Shape := ⟨3, ![8, 4096, 16]⟩
abbrev S8x16x11008 : Shape := ⟨3, ![8, 16, 11008]⟩
abbrev S4096x16 : Shape := ⟨2, ![4096, 16]⟩
abbrev S16x11008 : Shape := ⟨2, ![16, 11008]⟩
abbrev S1536x4096 : Shape := ⟨2, ![1536, 4096]⟩
abbrev S4096x8x16 : Shape := ⟨3, ![4096, 8, 16]⟩
abbrev S4096x128 : Shape := ⟨2, ![4096, 128]⟩
abbrev S_ : Shape := ⟨0, ![]⟩
abbrev S4096x104 : Shape := ⟨2, ![4096, 104]⟩
abbrev S4096x256 : Shape := ⟨2, ![4096, 256]⟩
abbrev S1x8 : Shape := ⟨2, ![1, 8]⟩
abbrev S1536x2 : Shape := ⟨2, ![1536, 2]⟩
abbrev S1536x1 : Shape := ⟨2, ![1536, 1]⟩
abbrev S1536x256 : Shape := ⟨2, ![1536, 256]⟩
abbrev S256x4096 : Shape := ⟨2, ![256, 4096]⟩
abbrev S256x2 : Shape := ⟨2, ![256, 2]⟩
abbrev S256x1 : Shape := ⟨2, ![256, 1]⟩
abbrev S256x256 : Shape := ⟨2, ![256, 256]⟩
abbrev S256 : Shape := ⟨1, ![256]⟩
abbrev S1x254 : Shape := ⟨2, ![1, 254]⟩
abbrev S256x254 : Shape := ⟨2, ![256, 254]⟩
abbrev S256x8 : Shape := ⟨2, ![256, 8]⟩
abbrev S256x128 : Shape := ⟨2, ![256, 128]⟩
abbrev S1x11008 : Shape := ⟨2, ![1, 11008]⟩
abbrev S128x11008 : Shape := ⟨2, ![128, 11008]⟩
abbrev S1536x11008 : Shape := ⟨2, ![1536, 11008]⟩
abbrev S1x256 : Shape := ⟨2, ![1, 256]⟩
abbrev S128x256 : Shape := ⟨2, ![128, 256]⟩
abbrev S16x256 : Shape := ⟨2, ![16, 256]⟩
abbrev S144x256 : Shape := ⟨2, ![144, 256]⟩
abbrev S1536x144 : Shape := ⟨2, ![1536, 144]⟩
abbrev S4x384x11008 : Shape := ⟨3, ![4, 384, 11008]⟩
abbrev S4x384 : Shape := ⟨2, ![4, 384]⟩

abbrev nBuf : Space → Nat
  | .hbm => 29
  | .vmem => 27
  | .smem => 0
  | _ => 0

abbrev bufTy : (tb : Table) → Fin (tcTables nBuf tb) → BufTy
  | .hbm, ⟨0, _⟩ => ⟨S4x384x4096, .bf16⟩
  | .hbm, ⟨1, _⟩ => ⟨S4096x11008, .fp8e4m3⟩
  | .hbm, ⟨2, _⟩ => ⟨S11008, .f32⟩
  | .hbm, ⟨3, _⟩ => ⟨S4096x8, .bf16⟩
  | .hbm, ⟨4, _⟩ => ⟨S8, .f32⟩
  | .hbm, ⟨5, _⟩ => ⟨S4x384x2, .i32⟩
  | .hbm, ⟨6, _⟩ => ⟨S8x4096x16, .bf16⟩
  | .hbm, ⟨7, _⟩ => ⟨S8x16x11008, .bf16⟩
  | .hbm, ⟨8, _⟩ => ⟨S4096x16, .bf16⟩
  | .hbm, ⟨9, _⟩ => ⟨S16x11008, .bf16⟩
  | .hbm, ⟨10, _⟩ => ⟨S1536x4096, .bf16⟩
  | .hbm, ⟨11, _⟩ => ⟨S4096x8x16, .bf16⟩
  | .hbm, ⟨12, _⟩ => ⟨S4096x128, .bf16⟩
  | .hbm, ⟨13, _⟩ => ⟨S_, .bf16⟩
  | .hbm, ⟨14, _⟩ => ⟨S4096x104, .bf16⟩
  | .hbm, ⟨15, _⟩ => ⟨S4096x256, .bf16⟩
  | .hbm, ⟨16, _⟩ => ⟨S1x8, .f32⟩
  | .hbm, ⟨17, _⟩ => ⟨S1536x2, .i32⟩
  | .hbm, ⟨18, _⟩ => ⟨S1536x4096, .fp8e4m3⟩
  | .hbm, ⟨19, _⟩ => ⟨S1536x1, .f32⟩
  | .hbm, ⟨20, _⟩ => ⟨S1536x2, .f32⟩
  | .hbm, ⟨21, _⟩ => ⟨S1536x256, .bf16⟩
  | .hbm, ⟨22, _⟩ => ⟨S1x11008, .f32⟩
  | .hbm, ⟨23, _⟩ => ⟨S128x11008, .bf16⟩
  | .hbm, ⟨24, _⟩ => ⟨S1536x11008, .bf16⟩
  | .hbm, ⟨25, _⟩ => ⟨S4x384x11008, .bf16⟩
  | .hbm, ⟨26, _⟩ => ⟨S4x384x2, .f32⟩
  | .hbm, ⟨27, _⟩ => ⟨S4x384x4096, .fp8e4m3⟩
  | .hbm, ⟨28, _⟩ => ⟨S4x384, .f32⟩
  | .local _ .vmem, ⟨0, _⟩ => ⟨S256x4096, .bf16⟩
  | .local _ .vmem, ⟨1, _⟩ => ⟨S256x4096, .bf16⟩
  | .local _ .vmem, ⟨2, _⟩ => ⟨S4096x256, .bf16⟩
  | .local _ .vmem, ⟨3, _⟩ => ⟨S1x8, .f32⟩
  | .local _ .vmem, ⟨4, _⟩ => ⟨S256x2, .i32⟩
  | .local _ .vmem, ⟨5, _⟩ => ⟨S256x2, .i32⟩
  | .local _ .vmem, ⟨6, _⟩ => ⟨S256x4096, .fp8e4m3⟩
  | .local _ .vmem, ⟨7, _⟩ => ⟨S256x4096, .fp8e4m3⟩
  | .local _ .vmem, ⟨8, _⟩ => ⟨S256x1, .f32⟩
  | .local _ .vmem, ⟨9, _⟩ => ⟨S256x1, .f32⟩
  | .local _ .vmem, ⟨10, _⟩ => ⟨S256x2, .f32⟩
  | .local _ .vmem, ⟨11, _⟩ => ⟨S256x2, .f32⟩
  | .local _ .vmem, ⟨12, _⟩ => ⟨S256x256, .bf16⟩
  | .local _ .vmem, ⟨13, _⟩ => ⟨S256x256, .bf16⟩
  | .local _ .vmem, ⟨14, _⟩ => ⟨S1536x4096, .fp8e4m3⟩
  | .local _ .vmem, ⟨15, _⟩ => ⟨S4096x256, .fp8e4m3⟩
  | .local _ .vmem, ⟨16, _⟩ => ⟨S4096x256, .fp8e4m3⟩
  | .local _ .vmem, ⟨17, _⟩ => ⟨S1536x1, .f32⟩
  | .local _ .vmem, ⟨18, _⟩ => ⟨S1x256, .f32⟩
  | .local _ .vmem, ⟨19, _⟩ => ⟨S1x256, .f32⟩
  | .local _ .vmem, ⟨20, _⟩ => ⟨S1536x256, .bf16⟩
  | .local _ .vmem, ⟨21, _⟩ => ⟨S128x256, .bf16⟩
  | .local _ .vmem, ⟨22, _⟩ => ⟨S128x256, .bf16⟩
  | .local _ .vmem, ⟨23, _⟩ => ⟨S16x256, .bf16⟩
  | .local _ .vmem, ⟨24, _⟩ => ⟨S16x256, .bf16⟩
  | .local _ .vmem, ⟨25, _⟩ => ⟨S1536x256, .bf16⟩
  | .local _ .vmem, ⟨26, _⟩ => ⟨S1536x256, .bf16⟩
  | _, _ => ⟨S4x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x4096 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1536x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1536x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S4x384x4096 : Shape := ⟨3, ![4, 384, 4096]⟩
abbrev S4096x11008 : Shape := ⟨2, ![4096, 11008]⟩
abbrev S11008 : Shape := ⟨1, ![11008]⟩
abbrev S4096x8 : Shape := ⟨2, ![4096, 8]⟩
abbrev S8 : Shape := ⟨1, ![8]⟩
abbrev S4x384x2 : Shape := ⟨3, ![4, 384, 2]⟩
abbrev S8x4096x16 : Shape := ⟨3, ![8, 4096, 16]⟩
abbrev S8x16x11008 : Shape := ⟨3, ![8, 16, 11008]⟩
abbrev S4096x16 : Shape := ⟨2, ![4096, 16]⟩
abbrev S16x11008 : Shape := ⟨2, ![16, 11008]⟩
abbrev S1536x4096 : Shape := ⟨2, ![1536, 4096]⟩
abbrev S1536x1 : Shape := ⟨2, ![1536, 1]⟩
abbrev S1536x11008 : Shape := ⟨2, ![1536, 11008]⟩
abbrev S1536 : Shape := ⟨1, ![1536]⟩
abbrev S1x254 : Shape := ⟨2, ![1, 254]⟩
abbrev S1536x254 : Shape := ⟨2, ![1536, 254]⟩
abbrev S4x384 : Shape := ⟨2, ![4, 384]⟩
abbrev S4x384x11008 : Shape := ⟨3, ![4, 384, 11008]⟩
abbrev S4x384x1 : Shape := ⟨3, ![4, 384, 1]⟩
abbrev S1x1x11008 : Shape := ⟨3, ![1, 1, 11008]⟩
abbrev S4x384x8 : Shape := ⟨3, ![4, 384, 8]⟩
abbrev S1x1x8 : Shape := ⟨3, ![1, 1, 8]⟩
abbrev S_ : Shape := ⟨0, ![]⟩
abbrev S4x384x2x1 : Shape := ⟨4, ![4, 384, 2, 1]⟩
abbrev S1 : Shape := ⟨1, ![1]⟩
abbrev S1x1x1x1 : Shape := ⟨4, ![1, 1, 1, 1]⟩
abbrev S1x1x1x8 : Shape := ⟨4, ![1, 1, 1, 8]⟩
abbrev S4x384x2x8 : Shape := ⟨4, ![4, 384, 2, 8]⟩
abbrev S4x384x8x16 : Shape := ⟨4, ![4, 384, 8, 16]⟩
abbrev S4x384x8x1 : Shape := ⟨4, ![4, 384, 8, 1]⟩
abbrev S4x384x16 : Shape := ⟨3, ![4, 384, 16]⟩

abbrev nBuf : Space → Nat
  | .hbm => 97
  | .vmem => 5
  | .smem => 0
  | _ => 0

abbrev bufTy : (tb : Table) → Fin (tcTables nBuf tb) → BufTy
  | .hbm, ⟨0, _⟩ => ⟨S4x384x4096, .bf16⟩
  | .hbm, ⟨1, _⟩ => ⟨S4096x11008, .fp8e4m3⟩
  | .hbm, ⟨2, _⟩ => ⟨S11008, .f32⟩
  | .hbm, ⟨3, _⟩ => ⟨S4096x8, .bf16⟩
  | .hbm, ⟨4, _⟩ => ⟨S8, .f32⟩
  | .hbm, ⟨5, _⟩ => ⟨S4x384x2, .i32⟩
  | .hbm, ⟨6, _⟩ => ⟨S8x4096x16, .bf16⟩
  | .hbm, ⟨7, _⟩ => ⟨S8x16x11008, .bf16⟩
  | .hbm, ⟨8, _⟩ => ⟨S4096x16, .bf16⟩
  | .hbm, ⟨9, _⟩ => ⟨S16x11008, .bf16⟩
  | .hbm, ⟨10, _⟩ => ⟨S1536x4096, .bf16⟩
  | .hbm, ⟨11, _⟩ => ⟨S1536x4096, .fp8e4m3⟩
  | .hbm, ⟨12, _⟩ => ⟨S1536x1, .f32⟩
  | .hbm, ⟨13, _⟩ => ⟨S1536x11008, .f32⟩
  | .hbm, ⟨14, _⟩ => ⟨S4x384x4096, .fp8e4m3⟩
  | .hbm, ⟨15, _⟩ => ⟨S4x384, .f32⟩
  | .hbm, ⟨16, _⟩ => ⟨S4x384x11008, .f32⟩
  | .hbm, ⟨17, _⟩ => ⟨S4x384x1, .f32⟩
  | .hbm, ⟨18, _⟩ => ⟨S4x384x11008, .f32⟩
  | .hbm, ⟨19, _⟩ => ⟨S4x384x11008, .f32⟩
  | .hbm, ⟨20, _⟩ => ⟨S1x1x11008, .f32⟩
  | .hbm, ⟨21, _⟩ => ⟨S4x384x11008, .f32⟩
  | .hbm, ⟨22, _⟩ => ⟨S4x384x11008, .f32⟩
  | .hbm, ⟨23, _⟩ => ⟨S4x384x8, .f32⟩
  | .hbm, ⟨24, _⟩ => ⟨S1x1x8, .f32⟩
  | .hbm, ⟨25, _⟩ => ⟨S4x384x8, .f32⟩
  | .hbm, ⟨26, _⟩ => ⟨S4x384x8, .f32⟩
  | .hbm, ⟨27, _⟩ => ⟨S_, .f32⟩
  | .hbm, ⟨28, _⟩ => ⟨S4x384, .f32⟩
  | .hbm, ⟨29, _⟩ => ⟨S_, .f32⟩
  | .hbm, ⟨30, _⟩ => ⟨S4x384, .f32⟩
  | .hbm, ⟨31, _⟩ => ⟨S4x384, .f32⟩
  | .hbm, ⟨32, _⟩ => ⟨S4x384x1, .f32⟩
  | .hbm, ⟨33, _⟩ => ⟨S4x384x8, .f32⟩
  | .hbm, ⟨34, _⟩ => ⟨S4x384x8, .f32⟩
  | .hbm, ⟨35, _⟩ => ⟨S4x384x8, .f32⟩
  | .hbm, ⟨36, _⟩ => ⟨S_, .f32⟩
  | .hbm, ⟨37, _⟩ => ⟨S4x384, .f32⟩
  | .hbm, ⟨38, _⟩ => ⟨S4x384x1, .f32⟩
  | .hbm, ⟨39, _⟩ => ⟨S4x384x8, .f32⟩
  | .hbm, ⟨40, _⟩ => ⟨S4x384x8, .f32⟩
  | .hbm, ⟨41, _⟩ => ⟨S_, .i32⟩
  | .hbm, ⟨42, _⟩ => ⟨S4x384x2, .i32⟩
  | .hbm, ⟨43, _⟩ => ⟨S4x384x2, .i1⟩
  | .hbm, ⟨44, _⟩ => ⟨S_, .i32⟩
  | .hbm, ⟨45, _⟩ => ⟨S4x384x2, .i32⟩
  | .hbm, ⟨46, _⟩ => ⟨S4x384x2, .i32⟩
  | .hbm, ⟨47, _⟩ => ⟨S4x384x2, .i32⟩
  | .hbm, ⟨48, _⟩ => ⟨S4x384x2x1, .i32⟩
  | .hbm, ⟨49, _⟩ => ⟨S1, .i32⟩
  | .hbm, ⟨50, _⟩ => ⟨S_, .i32⟩
  | .hbm, ⟨51, _⟩ => ⟨S4x384x2x1, .i32⟩
  | .hbm, ⟨52, _⟩ => ⟨S4x384x2x1, .i1⟩
  | .hbm, ⟨53, _⟩ => ⟨S1x1x1x1, .i32⟩
  | .hbm, ⟨54, _⟩ => ⟨S4x384x2x1, .i32⟩
  | .hbm, ⟨55, _⟩ => ⟨S4x384x2x1, .i1⟩
  | .hbm, ⟨56, _⟩ => ⟨S4x384x2x1, .i1⟩
  | .hbm, ⟨57, _⟩ => ⟨S_, .i1⟩
  | .hbm, ⟨58, _⟩ => ⟨S4x384x2, .i1⟩
  | .hbm, ⟨59, _⟩ => ⟨S4x384x2, .f32⟩
  | .hbm, ⟨60, _⟩ => ⟨S_, .f32⟩
  | .hbm, ⟨61, _⟩ => ⟨S4x384x2, .f32⟩
  | .hbm, ⟨62, _⟩ => ⟨S4x384x2, .f32⟩
  | .hbm, ⟨63, _⟩ => ⟨S4x384x1, .f32⟩
  | .hbm, ⟨64, _⟩ => ⟨S4x384x1, .f32⟩
  | .hbm, ⟨65, _⟩ => ⟨S4x384x1, .f32⟩
  | .hbm, ⟨66, _⟩ => ⟨S4x384x2, .f32⟩
  | .hbm, ⟨67, _⟩ => ⟨S4x384x2, .f32⟩
  | .hbm, ⟨68, _⟩ => ⟨S4x384x2x1, .i32⟩
  | .hbm, ⟨69, _⟩ => ⟨S1x1x1x8, .i32⟩
  | .hbm, ⟨70, _⟩ => ⟨S4x384x2x8, .i32⟩
  | .hbm, ⟨71, _⟩ => ⟨S4x384x2x8, .i32⟩
  | .hbm, ⟨72, _⟩ => ⟨S4x384x2x8, .i1⟩
  | .hbm, ⟨73, _⟩ => ⟨S4x384x2x8, .f32⟩
  | .hbm, ⟨74, _⟩ => ⟨S4x384x2x1, .f32⟩
  | .hbm, ⟨75, _⟩ => ⟨S4x384x2x8, .f32⟩
  | .hbm, ⟨76, _⟩ => ⟨S4x384x2x8, .f32⟩
  | .hbm, ⟨77, _⟩ => ⟨S_, .f32⟩
  | .hbm, ⟨78, _⟩ => ⟨S4x384x8, .f32⟩
  | .hbm, ⟨79, _⟩ => ⟨S4x384x8x16, .f32⟩
  | .hbm, ⟨80, _⟩ => ⟨S_, .f32⟩
  | .hbm, ⟨81, _⟩ => ⟨S4x384x8, .f32⟩
  | .hbm, ⟨82, _⟩ => ⟨S4x384x8, .f32⟩
  | .hbm, ⟨83, _⟩ => ⟨S4x384x8x1, .f32⟩
  | .hbm, ⟨84, _⟩ => ⟨S4x384x8x16, .f32⟩
  | .hbm, ⟨85, _⟩ => ⟨S4x384x8x16, .f32⟩
  | .hbm, ⟨86, _⟩ => ⟨S4x384x8x16, .bf16⟩
  | .hbm, ⟨87, _⟩ => ⟨S4x384x11008, .f32⟩
  | .hbm, ⟨88, _⟩ => ⟨S4x384x16, .f32⟩
  | .hbm, ⟨89, _⟩ => ⟨S_, .f32⟩
  | .hbm, ⟨90, _⟩ => ⟨S4x384x16, .f32⟩
  | .hbm, ⟨91, _⟩ => ⟨S4x384x16, .f32⟩
  | .hbm, ⟨92, _⟩ => ⟨S4x384x16, .bf16⟩
  | .hbm, ⟨93, _⟩ => ⟨S4x384x11008, .f32⟩
  | .hbm, ⟨94, _⟩ => ⟨S4x384x11008, .f32⟩
  | .hbm, ⟨95, _⟩ => ⟨S4x384x11008, .f32⟩
  | .hbm, ⟨96, _⟩ => ⟨S4x384x11008, .bf16⟩
  | .local _ .vmem, ⟨0, _⟩ => ⟨S1536x4096, .bf16⟩
  | .local _ .vmem, ⟨1, _⟩ => ⟨S4096x11008, .fp8e4m3⟩
  | .local _ .vmem, ⟨2, _⟩ => ⟨S1536x4096, .fp8e4m3⟩
  | .local _ .vmem, ⟨3, _⟩ => ⟨S1536x1, .f32⟩
  | .local _ .vmem, ⟨4, _⟩ => ⟨S1536x11008, .f32⟩
  | _, _ => ⟨S4x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_2 : Ref sig .tc := ⟨.hbm, 77, rfl⟩
abbrev main_v36 : Ref sig .tc := ⟨.hbm, 78, rfl⟩
abbrev main_v37 : Ref sig .tc := ⟨.hbm, 79, rfl⟩
abbrev main_cst_3 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_4 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/- The run of the kernel program, with the contents of every buffer that outlives its regions at the
   end: what the fold through the program's host operations and its two regions leaves there. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- From any memory with zero counters every execution of the kernel program terminates, and at the end every
    unscoped buffer holds the last boundary's contents `W5`. -/
theorem run : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.KernelIdeal.Value

end
-- ==== Proof.Exponent.lean ====
/- The power-of-two scale of a token, as the kernel and as the reference compute it, over the
   extended reals. The reference takes the least exponent whose power of two exceeds a threshold
   and raises 2 to it; the kernel counts the powers of two at most the threshold and writes the
   bits of the power. The lemmas here say that the two agree. -/
module

public import Idealize.ShloMosaic.PureOps.Ideal
public import Idealize.ShloMosaic.PureOps.Reduce

@[expose] public section

set_option maxRecDepth 16384

noncomputable section

namespace Cert.Value

open Idealize.ShloMosaic

/-- The 32-bit word for the exponent `n - 126`. -/
def expWord (n : Nat) : BitVec 32 := IntOp.subi (BitVec.ofNat 32 n) 126#32

/-- The bits of `2 ^ e` in the kernel's reading of `ldexp`: the biased exponent, clipped to [0, 255], in the exponent's field. -/
def pow2Word (e : BitVec 32) : BitVec 32 :=
  IntOp.shli .vector (IntOp.minsi 255#32 (IntOp.maxsi 0#32 (IntOp.addi e 127#32))) 23#32

/-- The extended real `2 ^ (n - 126)`. -/
def pow2 (n : Nat) : EReal := (((2 : ℝ) ^ ((n : ℤ) - 126) : ℝ) : EReal)

/-- The powers of two grow strictly with the exponent. -/
theorem pow2_lt {a b : Nat} (h : a < b) : pow2 a < pow2 b := by
  unfold pow2
  rw [EReal.coe_lt_coe_iff]
  exact zpow_lt_zpow_right₀ (by norm_num) (by omega)

/-- The powers of two grow with the exponent. -/
theorem pow2_le {a b : Nat} (h : a ≤ b) : pow2 a ≤ pow2 b := by
  rcases Nat.lt_or_eq_of_le h with h | h
  · exact (pow2_lt h).le
  · rw [h]

/-- The three fields of the word `pow2Word` builds, in the normal range. -/
theorem pow2Word_normal : ∀ n : Fin 254,
    ((pow2Word (expWord n)).extractLsb' 31 1 == 1#1) = false
      ∧ ((pow2Word (expWord n)).extractLsb' 23 8).toNat = n.val + 1
      ∧ ((pow2Word (expWord n)).extractLsb' 0 23).toNat = 0 := by
  decide +kernel

/-- The float32 pattern of infinity denotes infinity. -/
theorem ofBits_f32_inf : (Ideal.ofBits .f32 0x7F800000#32 : EReal) = ⊤ := by
  change Ideal.ieee 8 23 (0x7F800000#32 : BitVec 32) = ⊤
  simp [Ideal.ieee]

/-- What the word of `pow2Word` denotes in the normal range: the power of two. -/
theorem ofBits_pow2Word (n : Nat) (hn : n < 254) : (Ideal.ofBits .f32 (pow2Word (expWord n)) : EReal) = pow2 n := by
  obtain ⟨a, b, c⟩ := pow2Word_normal ⟨n, hn⟩
  unfold Ideal.ofBits Ideal.ieee pow2
  simp only at a b c ⊢
  simp only [show (8 + 23 : Nat) = 31 from rfl, a, b, c]
  rw [if_neg (by norm_num; omega), if_neg (by omega), EReal.coe_eq_coe_iff]
  have : ((2 ^ 23 + 0 : Nat) : ℝ) = (2 : ℝ) ^ (23 : ℤ) := by norm_num
  rw [this]
  simp only [Bool.false_eq_true, if_false, one_mul]
  rw [← zpow_add₀ (by norm_num)]
  refine congrArg (fun z : ℤ => (2 : ℝ) ^ z) ?_
  push_cast
  norm_num
  ring

/-- The signed value of an exponent word. -/
theorem toInt_expWord (n : Nat) (hn : n < 255) : (expWord n).toInt = (n : ℤ) - 126 := by
  have : ∀ n : Fin 255, (expWord n).toInt = (n.val : ℤ) - 126 := by decide +kernel
  exact this ⟨n, hn⟩

/-- 2 raised to an exponent word. -/
theorem exp2_expWord (n : Nat) (hn : n < 255) :
    (FloatOps.exp2 (FloatOps.sitofp .f32 (expWord n) : Ideal .f32) : Ideal .f32) = pow2 n := by
  change Ideal.exp2 (((expWord n).toInt : ℝ) : EReal) = _
  rw [toInt_expWord n hn, Ideal.exp2_coe]
  unfold pow2
  congr 1
  exact Real.rpow_intCast 2 _

/-- The powers of two at most `t`, among the 254 the programs compare, are the first so many of them. -/
theorem exists_count (t : EReal) : ∃ N, N ≤ 254 ∧ ∀ x : Fin 254, pow2 x ≤ t ↔ x.val < N := by
  classical
  have hex : ∃ n, n = 254 ∨ t < pow2 n := ⟨254, .inl rfl⟩
  refine ⟨Nat.find hex, ?_, fun x => ⟨fun h => ?_, fun h => ?_⟩⟩
  · exact Nat.find_min' hex (.inl rfl)
  · by_contra hx
    rcases Nat.find_spec hex with h' | h'
    · have := x.isLt; omega
    · exact absurd (lt_of_lt_of_le h' (pow2_le (by omega))) (not_lt.mpr h)
  · have := Nat.find_min hex h
    push Not at this
    exact this.2

/-- How many of the 254 powers of two from `2 ^ (-126)` are at most `t`. -/
def count (t : EReal) : Nat := (exists_count t).choose

/-- The count of powers of two is at most 254. -/
theorem count_le (t : EReal) : count t ≤ 254 := (exists_count t).choose_spec.1

/-- A power of two is at most `t` exactly if it is among the first `count t`. -/
theorem pow2_le_iff (t : EReal) (x : Fin 254) : pow2 x ≤ t ↔ x.val < count t := (exists_count t).choose_spec.2 x

/-- A sum of ones by machine words is the word of how many there are. -/
theorem fold_ones {ι : Type} (s : Finset ι) (p : ι → Prop) [DecidablePred p] :
    s.fold IntOp.addi (0#32) (fun x => if p x then 1#32 else 0#32) = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (fun hm => ha (Finset.mem_filter.mp hm).1)]
      unfold IntOp.addi
      rw [Nat.add_comm, BitVec.ofNat_add]
    · rw [if_neg h, if_neg h]
      unfold IntOp.addi
      exact BitVec.zero_add _

/-- The kernel's count of powers of two, as a machine word. -/
theorem fold_count (t : EReal) :
    (Finset.univ : Finset (Fin 254)).fold IntOp.addi (0#32) (fun x : Fin 254 => if pow2 x ≤ t then 1#32 else 0#32)
      = BitVec.ofNat 32 (count t) := by
  rw [fold_ones]
  congr 1
  have : (Finset.univ.filter fun x : Fin 254 => pow2 x ≤ t) = Finset.univ.filter fun x : Fin 254 => x.val < count t :=
    Finset.filter_congr fun x _ => pow2_le_iff t x
  rw [this, Fin.card_filter_val_lt, min_eq_right (count_le t)]

/-- The signed value of the lesser of two words is the lesser of their signed values. -/
theorem toInt_minsi (x y : BitVec 32) : (IntOp.minsi x y).toInt = min x.toInt y.toInt := by
  unfold IntOp.minsi
  by_cases h : x.slt y
  · rw [if_pos h]
    rw [BitVec.slt_iff_toInt_lt] at h
    omega
  · rw [if_neg h]
    rw [BitVec.slt_iff_toInt_lt] at h
    omega

/-- The reference's least exponent, as a machine word. -/
theorem fold_least (t : EReal) :
    (Finset.univ : Finset (Fin 254)).fold IntOp.minsi (2147483647#32) (fun x : Fin 254 => if t < pow2 x then expWord x else 128#32)
      = expWord (count t) := by
  have hN := count_le t
  apply BitVec.eq_of_toInt_eq
  have h1 := Finset.fold_hom (op := IntOp.minsi (w := 32)) (op' := (min : ℤ → ℤ → ℤ)) (m := BitVec.toInt)
    (s := (Finset.univ : Finset (Fin 254))) (b := 2147483647#32)
    (f := fun x : Fin 254 => if t < pow2 x then expWord x else 128#32) toInt_minsi
  rw [← h1, toInt_expWord _ (by omega)]
  have hf : ∀ x : Fin 254, (if t < pow2 x then expWord x else 128#32).toInt
      = if x.val < count t then 128 else (x.val : ℤ) - 126 := by
    intro x
    have := pow2_le_iff t x
    by_cases h : x.val < count t
    · rw [if_pos h, if_neg (not_lt.mpr (this.mpr h))]; rfl
    · rw [if_neg h, if_pos (not_le.mp fun h' => h (this.mp h')), toInt_expWord _ (by omega)]
  apply le_antisymm
  · rw [Finset.fold_min_le]
    right
    by_cases h : count t < 254
    · exact ⟨⟨count t, h⟩, Finset.mem_univ _, by rw [hf, if_neg (by simp)]⟩
    · refine ⟨0, Finset.mem_univ _, ?_⟩
      rw [hf, if_pos (by simp; omega)]
      omega
  · rw [Finset.le_fold_min]
    refine ⟨?_, fun x _ => ?_⟩
    · have : (2147483647#32 : BitVec 32).toInt = 2147483647 := by decide
      rw [this]; omega
    · rw [hf]
      split <;> omega

/-- `frexp`'s exponent word of `t`, given the word `n` that a normal `t` has: 0 where `t` is 0, subnormal or infinite. -/
def frexpOf (t : EReal) (n : BitVec 32) : BitVec 32 :=
  if Ideal.ofBits .f32 0x00800000#32 ≤ t ∧ t < ⊤ then n else 0#32

/-- Both programs' guard around the exponent. -/
theorem select_normal (t i : EReal) (n : BitVec 32) (hi : i = ⊤) :
    Scalar.select (IntOp.andi (FloatOps.cmpf (F := Ideal) (φ := .f32) .oge t (Ideal.ofBits .f32 0x00800000#32))
        (FloatOps.cmpf (F := Ideal) (φ := .f32) .olt t i)) n 0#32
      = frexpOf t n := by
  subst hi
  change Scalar.select (IntOp.andi (BitVec.ofBool (decide (Ideal.ofBits .f32 0x00800000#32 ≤ t))) (BitVec.ofBool (decide (t < ⊤)))) n 0#32 = _
  unfold frexpOf Scalar.select
  by_cases h0 : Ideal.ofBits .f32 0x00800000#32 ≤ t <;> by_cases h1 : t < ⊤ <;> simp [h0, h1, IntOp.andi]

/-- The exponent word of a token whose largest magnitude is `a`: `frexp`'s exponent of `a / 448`, and 0 at 0. -/
def expo (a : EReal) : BitVec 32 :=
  if a = 0 then 0#32 else
    frexpOf (a * Ideal.ofBits .f32 0x3B124925#32) (expWord (count (a * Ideal.ofBits .f32 0x3B124925#32)))

/-- The exponent word of a token is the word of one of the exponents from -126 to 128. -/
theorem exists_expo (a : EReal) : ∃ n, n ≤ 254 ∧ expo a = expWord n := by
  unfold expo frexpOf
  split
  · exact ⟨126, by omega, rfl⟩
  · split
    · exact ⟨_, count_le _, rfl⟩
    · exact ⟨126, by omega, rfl⟩

/-- The reference's `ldexp` of 1: 2 raised to the word `e`, 0 below the normal numbers and infinity above them. -/
def ldexpOne (e : BitVec 32) : EReal :=
  Scalar.select (IntOp.cmpi .sgt e 127#32) (Ideal.ofBits .f32 0x7F800000#32)
    (Scalar.select (IntOp.cmpi .slt e 4294967170#32) (Ideal.ofBits .f32 0x00000000#32)
      (FloatOps.exp2 (FloatOps.sitofp .f32 e : Ideal .f32) : Ideal .f32))

/-- The kernel's `ldexp` of 1, from the bits, is the reference's, for the exponents from -126 to 128. -/
theorem ofBits_ldexp (n : Nat) (hn : n ≤ 254) : (Ideal.ofBits .f32 (pow2Word (expWord n)) : EReal) = ldexpOne (expWord n) := by
  unfold ldexpOne
  have hgt : ∀ n : Fin 255, IntOp.cmpi .sgt (expWord n) 127#32 = BitVec.ofBool (decide (n.val = 254)) := by decide +kernel
  have hlt : ∀ n : Fin 255, IntOp.cmpi .slt (expWord n) 4294967170#32 = 0#1 := by decide +kernel
  have h1 := hgt ⟨n, by omega⟩
  have h2 := hlt ⟨n, by omega⟩
  simp only at h1 h2
  rw [h1, h2]
  by_cases h : n = 254
  · subst h
    rfl
  · rw [ofBits_pow2Word n (by omega), exp2_expWord n (by omega), decide_eq_false h]
    rfl

/-- The same for the negated exponents, from -128 to 126. -/
theorem ofBits_ldexp_neg (n : Nat) (hn : n ≤ 254) :
    (Ideal.ofBits .f32 (pow2Word (IntOp.subi 0#32 (expWord n))) : EReal) = ldexpOne (IntOp.subi 0#32 (expWord n)) := by
  by_cases h : n ≤ 252
  · have hneg : ∀ n : Fin 253, IntOp.subi 0#32 (expWord n) = expWord (252 - n) := by decide +kernel
    have := hneg ⟨n, by omega⟩
    simp only at this
    rw [this]
    exact ofBits_ldexp _ (by omega)
  · have hn' : n = 253 ∨ n = 254 := by omega
    rcases hn' with rfl | rfl <;> rfl

/-- The scale of a token whose largest magnitude is `a`. -/
def scaleOf (a : EReal) : EReal := ldexpOne (expo a)

/-- The inverse scale of a token whose largest magnitude is `a`. -/
def invOf (a : EReal) : EReal := ldexpOne (IntOp.subi 0#32 (expo a))

/-- The kernel's scale, from the bits of the exponent, is the reference's. -/
theorem ofBits_scale (a : EReal) : (Ideal.ofBits .f32 (pow2Word (expo a)) : EReal) = scaleOf a := by
  obtain ⟨n, hn, h⟩ := exists_expo a
  unfold scaleOf
  rw [h, ofBits_ldexp n hn]

/-- The kernel's inverse scale, from the bits of the negated exponent, is the reference's. -/
theorem ofBits_inv (a : EReal) : (Ideal.ofBits .f32 (pow2Word (IntOp.subi 0#32 (expo a))) : EReal) = invOf a := by
  obtain ⟨n, hn, h⟩ := exists_expo a
  unfold invOf
  rw [h, ofBits_ldexp_neg n hn]

end Cert.Value

end
-- ==== Proof.Spec.lean ====
/- The values the two programs compute, as plain functions over the extended reals of one token's
   data: the quantiser, the softmax over the experts, the gates, and one element of the output. -/
module

public import proofs.«01_k».proof.Proof.Exponent

@[expose] public section

set_option maxRecDepth 16384

noncomputable section

namespace Cert.Value

open Idealize.ShloMosaic

/-- The largest magnitude of a token. -/
def amax (x : Fin 4096 → EReal) : EReal := Finset.univ.fold max ⊥ fun k => max (x k) (-(x k))

/-- The quantised element `k` of a token: the token times its inverse scale, clipped to [-448, 448]. -/
def code (x : Fin 4096 → EReal) (k : Fin 4096) : EReal :=
  min (Ideal.ofBits .f32 0x43E00000#32) (max (Ideal.ofBits .f32 0xC3E00000#32) (x k * invOf (amax x)))

/-- The router's logit of expert `e` for a token. -/
def logit (x : Fin 4096 → EReal) (w : Fin 4096 → Fin 8 → EReal) (b : Fin 8 → EReal) (e : Fin 8) : EReal :=
  ∑ k, x k * w k e + b e

/-- The softmax of eight logits. -/
def prob (l : Fin 8 → EReal) (e : Fin 8) : EReal :=
  Ideal.div (Ideal.exp (l e - Finset.univ.fold max ⊥ l)) (∑ e', Ideal.exp (l e' - Finset.univ.fold max ⊥ l))

/-- The entry of `p` that the index word `i` names, 0 if it names none. -/
def pick (p : Fin 8 → EReal) (i : BitVec 32) : EReal := ∑ e : Fin 8, if BitVec.ofNat 32 e.val = i then p e else 0

/-- The gate of the `k`-th chosen expert: its probability over the sum of the two chosen ones. -/
def gate (p : Fin 8 → EReal) (i : Fin 2 → BitVec 32) (k : Fin 2) : EReal :=
  Ideal.div (pick p (i k)) (pick p (i 0) + pick p (i 1))

/-- The weight of expert `e` for a token: the sum of the gates of the choices that name it. -/
def weight (p : Fin 8 → EReal) (i : Fin 2 → BitVec 32) (e : Fin 8) : EReal :=
  (if BitVec.ofNat 32 e.val = i 0 then gate p i 0 else 0) + (if BitVec.ofNat 32 e.val = i 1 then gate p i 1 else 0)

/-- The element of a token's down-projection against one column `a`. -/
def down (x a : Fin 4096 → EReal) : EReal := ∑ k, x k * a k

/-- One element of the output: the base product of the codes `q` with the column `w`, times the token's scale `s` and the
    column's scale `ws`; the experts' low-rank terms, weighted; and the shared low-rank term. -/
def outElt (x : Fin 4096 → EReal) (p : Fin 8 → EReal) (i : Fin 2 → BitVec 32) (w : Fin 4096 → EReal) (ws : EReal)
    (la : Fin 8 → Fin 16 → Fin 4096 → EReal) (lb : Fin 8 → Fin 16 → EReal)
    (sa : Fin 16 → Fin 4096 → EReal) (sb : Fin 16 → EReal) : EReal :=
  (∑ k, code x k * w k) * scaleOf (amax x) * ws
    + (∑ e : Fin 8, ∑ r : Fin 16, down x (la e r) * (weight p i e * Ideal.ofBits .f32 0x40000000#32) * lb e r)
    + ∑ r : Fin 16, down x (sa r) * Ideal.ofBits .f32 0x40000000#32 * sb r

/-- A select on an equality of words is an if. -/
theorem select_eq {α : Type} {w : Nat} (a b : BitVec w) (x y : α) :
    Scalar.select (IntOp.cmpi .eq a b) x y = if a = b then x else y := by
  have h1 : IntOp.cmpi .eq a b = BitVec.ofBool (a == b) := rfl
  rw [h1]
  unfold Scalar.select
  by_cases h : a = b
  · simp [h]
  · rw [if_neg h, beq_eq_false_iff_ne.mpr h, if_neg (by decide)]

/-- The float32 pattern of minus infinity denotes minus infinity. -/
theorem ofBits_f32_bot : (Ideal.ofBits .f32 0xFF800000#32 : EReal) = ⊥ := by
  change Ideal.ieee 8 23 (0xFF800000#32 : BitVec 32) = ⊥
  simp [Ideal.ieee]

/-- The bfloat16 pattern of minus infinity denotes minus infinity. -/
theorem ofBits_bf16_bot : (Ideal.ofBits .bf16 0xFF80#16 : EReal) = ⊥ := by
  change Ideal.ieee 8 7 (0xFF80#16 : BitVec 16) = ⊥
  simp [Ideal.ieee]

end Cert.Value

end
-- ==== Proof.Args.lean ====
/- The ten arguments as one record, and the four results as functions of it. -/
module

public import proofs.«01_k».proof.Proof.Spec
public import Idealize.ShloMosaic.Lib.Pointwise

@[expose] public section

set_option maxRecDepth 16384

noncomputable section

namespace Cert.Value

open Idealize.ShloMosaic

/-- The arguments that the programs are launched with, each as a function of its indices. -/
structure Args where
  x : Fin 4 → Fin 384 → Fin 4096 → EReal
  w : Fin 4096 → Fin 11008 → EReal
  ws : Fin 11008 → EReal
  rw : Fin 4096 → Fin 8 → EReal
  rb : Fin 8 → EReal
  idx : Fin 4 → Fin 384 → Fin 2 → BitVec 32
  la : Fin 8 → Fin 4096 → Fin 16 → EReal
  lb : Fin 8 → Fin 16 → Fin 11008 → EReal
  sa : Fin 4096 → Fin 16 → EReal
  sb : Fin 16 → Fin 11008 → EReal

namespace Args

variable (a : Args) (b : Fin 4) (s : Fin 384)

/-- A token's probabilities. -/
def probs : Fin 8 → EReal := prob (logit (a.x b s) a.rw a.rb)

/-- The output. -/
def out (n : Fin 11008) : EReal :=
  outElt (a.x b s) (a.probs b s) (a.idx b s) (fun k => a.w k n) (a.ws n) (fun e r k => a.la e k r) (fun e r => a.lb e r n)
    (fun r k => a.sa k r) (fun r => a.sb r n)

/-- The gates. -/
def gates (k : Fin 2) : EReal := gate (a.probs b s) (a.idx b s) k

/-- The codes. -/
def codes (k : Fin 4096) : EReal := code (a.x b s) k

/-- The scales. -/
def scale : EReal := scaleOf (amax (a.x b s))

end Args

/-- A sum over 128 columns is a sum over 8 experts of 16 columns each. -/
theorem sum_columns (f : Fin 128 → EReal) :
    ∑ n, f n = ∑ e : Fin 8, ∑ r : Fin 16, f (⟨e.val * 16 + r.val, by omega⟩ : Fin 128) := by
  rw [← Fintype.sum_prod_type']
  refine (Fintype.sum_equiv (finProdFinEquiv : Fin 8 × Fin 16 ≃ Fin (8 * 16)) _ _ fun p => ?_).symm
  refine congrArg f (Fin.ext ?_)
  change p.1.val * 16 + p.2.val = p.2.val + 16 * p.1.val
  omega

end Cert.Value

end
-- ==== Proof.KernelQuant.lean ====
/- The kernel's quantiser on one block of 256 tokens, read at an index: the exponent word, the scale
   and the codes of a token. -/
module

public import proofs.«01_k».proof.Proof.Spec
public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Value

open Idealize.ShloMosaic Cert.KernelIdeal Cert.KernelIdeal.Gen Cert.Value

/-- The maximum over a row of a block. -/
theorem rowMax (w : FVec Ideal S256x4096 .bf16) (j : Fin 256) :
    multiReduction .maximumf [1] S256 w 0xFF80#16 reduces_S256x4096_S256 (.inr rfl) rfl (ix1 j)
      = Finset.univ.fold max (Ideal.ofBits FTy.bf16 0xFF80#16) (fun x => w (ix2 j x)) := by
  pointwise

/-- The row of largest magnitudes. -/
theorem rowAmax (v : Vec Ideal S256x4096 .bf16) (j : Fin 256) :
    multiReduction .maximumf [1] S256 (absf (k0_pay2 (F := Ideal) v)) 0xFF80#16 reduces_S256x4096_S256 (.inr rfl) rfl (ix1 j)
      = amax fun k => v (ix2 j k) := by
  rw [rowMax, ofBits_bf16_bot]
  unfold amax
  congr 1
  funext k
  pointwise [k0_pay2]
  rfl

/-- The sum over a row of exponent candidates. -/
theorem rowSum (w : IVec S256x254 32) (j : Fin 256) :
    multiReductionI .add [1] S256 w 0#32 reduces_S256x254_S256 rfl (ix1 j)
      = Finset.univ.fold IntOp.addi 0#32 (fun x => w (ix2 j x)) := by
  pointwise

/-- The words of the powers of two, over the 254 candidates. -/
def powers : IVec S1x254 32 :=
  have v8 : IVec S1x254 32 := iota .tc S1x254 32 [1] iota_S1x254_d1_w32
  have v9 : IVec S1x254 32 := broadcast S1x254 126#32
  have v10 : IVec S1x254 32 := subi v8 v9
  have v11 : IVec S1x254 32 := broadcast S1x254 127#32
  have v12 : IVec S1x254 32 := addi v10 v11
  have v13 : IVec S1x254 32 := broadcast S1x254 0#32
  have v14 : IVec S1x254 32 := maxsi v13 v12
  have v15 : IVec S1x254 32 := broadcast S1x254 255#32
  have v16 : IVec S1x254 32 := minsi v15 v14
  have v17 : IVec S1x254 32 := broadcast S1x254 23#32
  shli v16 v17

/-- Candidate `x` is the word of `2 ^ (x - 126)`. -/
theorem powers_at (x : Fin 254) : powers (ix2 0 x) = pow2Word (expWord x) := by
  pointwise [powers]
  rfl

/-- Which candidates a row counts, from the row of magnitudes. -/
def counted (m : FVec Ideal S256 .bf16) : IVec S256x254 32 :=
  have v4 : FVec Ideal S256x1 .bf16 := shapeCast S256x1 m shapeCasts_S256_S256x1
  have v5 : FVec Ideal S256x1 .f32 := extf .f32 v4 bitsLt_bf16_f32
  have v6 : FVec Ideal S256x1 .f32 := broadcast S256x1 (Scalar.ofBits .f32 0x3B124925#32)
  have v7 : FVec Ideal S256x1 .f32 := mulf v5 v6
  have v26 : FVec Ideal S1x254 .f32 := bitcastToFloat .f32 powers
  have v27 : FVec Ideal S256x254 .f32 := broadcastTo S256x254 v26 broadcasts_S1x254_S256x254
  have v28 : FVec Ideal S256x254 .f32 := broadcastTo S256x254 v7 broadcasts_S256x1_S256x254
  have v29 : IVec S256x254 1 := cmpf .ole v27 v28
  have v30 : IVec S256x254 32 := broadcast S256x254 1#32
  have v31 : IVec S256x254 32 := broadcast S256x254 0#32
  select v29 v30 v31

/-- A candidate counts 1 where its power of two is at most the threshold, and 0 elsewhere. -/
theorem counted_at (m : FVec Ideal S256 .bf16) (j : Fin 256) (x : Fin 254) :
    counted m (ix2 j x) = if pow2 x ≤ m (ix1 j) * Ideal.ofBits .f32 0x3B124925#32 then 1#32 else 0#32 := by
  have h : (Ideal.ofBits .f32 (powers (ix2 0 x)) : EReal) = pow2 x := by
    rw [powers_at, ofBits_pow2Word _ (by omega)]
  rw [← h]
  pointwise [counted]

/-- The exponent words, from the row of magnitudes. -/
def expoCore (m : FVec Ideal S256 .bf16) : IVec S256x1 32 :=
  have v4 : FVec Ideal S256x1 .bf16 := shapeCast S256x1 m shapeCasts_S256_S256x1
  have v5 : FVec Ideal S256x1 .f32 := extf .f32 v4 bitsLt_bf16_f32
  have v6 : FVec Ideal S256x1 .f32 := broadcast S256x1 (Scalar.ofBits .f32 0x3B124925#32)
  have v7 : FVec Ideal S256x1 .f32 := mulf v5 v6
  have v33 : IVec S256 32 := multiReductionI .add [1] S256 (counted m) 0#32 reduces_S256x254_S256 rfl
  have v34 : IVec S256x1 32 := shapeCast S256x1 v33 shapeCasts_S256_S256x1
  have v35 : FVec Ideal S256x1 .f32 := broadcast S256x1 (Scalar.ofBits .f32 0x00800000#32)
  have v36 : IVec S256x1 1 := cmpf .oge v7 v35
  have v37 : FVec Ideal S256x1 .f32 := broadcast S256x1 (Scalar.ofBits .f32 0x7F800000#32)
  have v38 : IVec S256x1 1 := cmpf .olt v7 v37
  have v39 : IVec S256x1 1 := andi v36 v38
  have v40 : IVec S256x1 32 := broadcast S256x1 126#32
  have v41 : IVec S256x1 32 := subi v34 v40
  have v42 : IVec S256x1 32 := broadcast S256x1 0#32
  have v43 : IVec S256x1 32 := select v39 v41 v42
  have v44 : FVec Ideal S256x1 .f32 := broadcast S256x1 (Scalar.ofBits .f32 0x00000000#32)
  have v45 : IVec S256x1 1 := cmpf .oeq v5 v44
  have v46 : IVec S256x1 32 := broadcast S256x1 0#32
  select v45 v46 v43

/-- The printed exponent words are those of the row of largest magnitudes. -/
theorem pay3_eq (v : Vec Ideal S256x4096 .bf16) : k0_pay3 (F := Ideal) v
    = expoCore (multiReduction .maximumf [1] S256 (absf (k0_pay2 (F := Ideal) v)) 0xFF80#16 reduces_S256x4096_S256 (.inr rfl) rfl) := rfl

/-- The exponent word of a row is `expo` of the row's magnitude. -/
theorem expoCore_at (m : FVec Ideal S256 .bf16) (j : Fin 256) : expoCore m (ix2 j 0) = expo (m (ix1 j)) := by
  have h : expoCore m (ix2 j 0) = if m (ix1 j) = 0 then 0#32 else
      frexpOf (m (ix1 j) * Ideal.ofBits .f32 0x3B124925#32)
        (IntOp.subi (multiReductionI .add [1] S256 (counted m) 0#32 reduces_S256x254_S256 rfl (ix1 j)) 126#32) := by
    rw [← select_normal _ (Ideal.ofBits .f32 0x7F800000#32) _ ofBits_f32_inf]
    unfold expoCore
    generalize multiReductionI .add [1] S256 (counted m) 0#32 reduces_S256x254_S256 rfl = g
    pointwise
  rw [h, rowSum]
  simp only [counted_at]
  rw [fold_count]
  rfl

/-- The exponent word of a token. -/
theorem pay3_at (v : Vec Ideal S256x4096 .bf16) (j : Fin 256) :
    k0_pay3 (F := Ideal) v (ix2 j 0) = expo (amax fun k => v (ix2 j k)) := by
  rw [pay3_eq, expoCore_at, rowAmax]

/-- The scale's bits are those `pow2Word` builds from the exponent word. -/
theorem pay4_at (e : IVec S256x1 32) (j : Fin 256) :
    k0_pay4 (F := Ideal) e (ix2 j 0) = (Ideal.ofBits .f32 (pow2Word (e (ix2 j 0))) : EReal) := by
  pointwise [k0_pay4]
  rfl

/-- The scale of a token. -/
theorem scale_at (v : Vec Ideal S256x4096 .bf16) (j : Fin 256) :
    k0_pay4 (F := Ideal) (k0_pay3 v) (ix2 j 0) = (scaleOf (amax fun k => v (ix2 j k)) : EReal) := by
  rw [pay4_at, pay3_at, ofBits_scale]

/-- A code is the token's element times what the negated exponent's bits denote, clipped to [-448, 448]. -/
theorem pay5_at (x : FVec Ideal S256x4096 .bf16) (e : IVec S256x1 32) (j : Fin 256) (k : Fin 4096) :
    k0_pay5 (F := Ideal) x e (ix2 j k)
      = (min (Ideal.ofBits .f32 0x43E00000#32) (max (Ideal.ofBits .f32 0xC3E00000#32)
          (x (ix2 j k) * Ideal.ofBits .f32 (pow2Word (IntOp.subi 0#32 (e (ix2 j 0)))))) : EReal) := by
  pointwise [k0_pay5]
  rfl

/-- A code of a token. -/
theorem code_at (v : Vec Ideal S256x4096 .bf16) (j : Fin 256) (k : Fin 4096) :
    k0_pay5 (F := Ideal) (k0_pay2 v) (k0_pay3 v) (ix2 j k) = (code (fun k => v (ix2 j k)) k : EReal) := by
  rw [pay5_at, pay3_at, ofBits_inv]
  unfold code
  have h : k0_pay2 (F := Ideal) v (ix2 j k) = v (ix2 j k) := by pointwise [k0_pay2]
  rw [h]

end Cert.KernelIdeal.Value

end
-- ==== Proof.KernelRoute.lean ====
/- The kernel's routing on one block of 256 tokens, read at an index: the down-projections, the
   softmax over the experts, the gates, and the weighted down-projections. -/
module

public import proofs.«01_k».proof.Proof.Spec
public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Value

open Idealize.ShloMosaic Cert.KernelIdeal Cert.KernelIdeal.Gen Cert.Value

/-- The down-projections of a token against the joined matrix. -/
theorem down_at (x : Vec Ideal S256x4096 .bf16) (a : Vec Ideal S4096x256 .bf16) (j : Fin 256) (c : Fin 256) :
    k0_pay6 (F := Ideal) (k0_pay2 x) a (ix2 j c) = (down (fun k => x (ix2 j k)) (fun k => a (ix2 k c)) : EReal) := by
  unfold down
  pointwise [k0_pay6, k0_pay2]

/-- The logits' columns of the joined matrix, 144 to 151. -/
abbrev logitCol (e : Fin 8) : Fin 256 := ⟨144 + e.val, by omega⟩

/-- The probabilities of a token, from its block. -/
abbrev probs (x : Vec Ideal S256x4096 .bf16) (a : Vec Ideal S4096x256 .bf16) (b : Vec Ideal S1x8 .f32) (j : Fin 256) : Fin 8 → EReal :=
  prob (logit (fun k => x (ix2 j k)) (fun k e => a (ix2 k (logitCol e))) (fun e => b (ix2 0 e)))

/-- The kernel's softmax, at token `j` and expert `e`. -/
theorem probs_at (x : Vec Ideal S256x4096 .bf16) (a : Vec Ideal S4096x256 .bf16) (b : Vec Ideal S1x8 .f32) (j : Fin 256) (e : Fin 8) :
    k0_pay8 (F := Ideal) (k0_pay7 (k0_pay2 x) a b) (ix2 j e) = (probs x a b j e : EReal) := by
  have h3 : ∀ k, k0_pay2 (F := Ideal) x (ix2 j k) = x (ix2 j k) := fun k => by pointwise [k0_pay2]
  generalize k0_pay2 (F := Ideal) x = y at h3
  unfold probs prob logit
  simp only [← h3, ← ofBits_f32_bot]
  pointwise [k0_pay8, k0_pay7, k0_pay6]

/-- The probability of the first choice: the entry its index word names. -/
theorem pay11_at (l : FVec Ideal S256x8 .f32) (i : Vec Ideal S256x1 .i32) (j : Fin 256) :
    k0_pay11 (F := Ideal) l i (ix2 j 0) = (pick (fun e => k0_pay8 (F := Ideal) l (ix2 j e)) (i (ix2 j 0)) : EReal) := by
  unfold pick
  simp only [← select_eq]
  unfold k0_pay11
  generalize k0_pay8 (F := Ideal) l = p
  pointwise [k0_pay9]

/-- The probability of the second choice: the entry its index word names. -/
theorem pay12_at (l : FVec Ideal S256x8 .f32) (i : Vec Ideal S256x1 .i32) (j : Fin 256) :
    k0_pay12 (F := Ideal) l i (ix2 j 0) = (pick (fun e => k0_pay8 (F := Ideal) l (ix2 j e)) (i (ix2 j 0)) : EReal) := by
  unfold pick
  simp only [← select_eq]
  unfold k0_pay12
  generalize k0_pay8 (F := Ideal) l = p
  pointwise [k0_pay10]

/-- The two index words of a token. -/
abbrev words (i0 i1 : Vec Ideal S256x1 .i32) (j : Fin 256) : Fin 2 → BitVec 32 := ![i0 (ix2 j 0), i1 (ix2 j 0)]

/-- The gate of the first choice. -/
theorem pay13_at (x : Vec Ideal S256x4096 .bf16) (a : Vec Ideal S4096x256 .bf16) (b : Vec Ideal S1x8 .f32) (i0 i1 : Vec Ideal S256x1 .i32) (j : Fin 256) :
    k0_pay13 (F := Ideal) (k0_pay7 (k0_pay2 x) a b) i0 i1 (ix2 j 0) = (gate (probs x a b j) (words i0 i1 j) 0 : EReal) := by
  have h : ∀ l : FVec Ideal S256x8 .f32, k0_pay13 (F := Ideal) l i0 i1 (ix2 j 0)
      = (Ideal.div (k0_pay11 (F := Ideal) l i0 (ix2 j 0)) (k0_pay11 (F := Ideal) l i0 (ix2 j 0) + k0_pay12 (F := Ideal) l i1 (ix2 j 0)) : EReal) := fun _ => rfl
  rw [h, pay11_at, pay12_at]
  simp only [probs_at]
  rfl

/-- The gate of the second choice. -/
theorem pay14_at (x : Vec Ideal S256x4096 .bf16) (a : Vec Ideal S4096x256 .bf16) (b : Vec Ideal S1x8 .f32) (i0 i1 : Vec Ideal S256x1 .i32) (j : Fin 256) :
    k0_pay14 (F := Ideal) (k0_pay7 (k0_pay2 x) a b) i0 i1 (ix2 j 0) = (gate (probs x a b j) (words i0 i1 j) 1 : EReal) := by
  have h : ∀ l : FVec Ideal S256x8 .f32, k0_pay14 (F := Ideal) l i0 i1 (ix2 j 0)
      = (Ideal.div (k0_pay12 (F := Ideal) l i1 (ix2 j 0)) (k0_pay11 (F := Ideal) l i0 (ix2 j 0) + k0_pay12 (F := Ideal) l i1 (ix2 j 0)) : EReal) := fun _ => rfl
  rw [h, pay11_at, pay12_at]
  simp only [probs_at]
  rfl

/-- The gates of a token. -/
theorem gates_at (x : Vec Ideal S256x4096 .bf16) (a : Vec Ideal S4096x256 .bf16) (b : Vec Ideal S1x8 .f32) (i0 i1 : Vec Ideal S256x1 .i32) (j : Fin 256) (c : Fin 2) :
    k0_pay15 (F := Ideal) (k0_pay7 (k0_pay2 x) a b) i0 i1 (ix2 j c) = (gate (probs x a b j) (words i0 i1 j) c : EReal) := by
  have h : ∀ l : FVec Ideal S256x8 .f32, k0_pay15 (F := Ideal) l i0 i1 (ix2 j c)
      = Scalar.select (IntOp.cmpi .eq (BitVec.ofNat 32 c.val) 0#32) (k0_pay13 (F := Ideal) l i0 i1 (ix2 j 0)) (k0_pay14 (F := Ideal) l i0 i1 (ix2 j 0)) := fun l => by
    unfold k0_pay15
    generalize k0_pay13 (F := Ideal) l i0 i1 = g0
    generalize k0_pay14 (F := Ideal) l i0 i1 = g1
    pointwise
  rw [h, pay13_at, pay14_at, select_eq]
  have hc : c = 0 ∨ c = 1 := by omega
  rcases hc with rfl | rfl
  · exact if_pos rfl
  · exact if_neg (by decide)

/-- The expert that a column of the routed down-projections belongs to. -/
abbrev expertOf (c : Fin 128) : Fin 8 := ⟨c.val / 16, by omega⟩

/-- The kernel's quotient of a column number by 16. -/
def quot16 (n : BitVec 32) : BitVec 32 :=
  Scalar.select (IntOp.andi (IntOp.cmpi .ne (IntOp.subi ((IntOp.cmpi .sgt n 0#32).setWidth 32) ((IntOp.cmpi .slt n 0#32).setWidth 32))
      (Scalar.subi (Scalar.extui (Scalar.cmpi .sgt 16#32 0#32)) (Scalar.extui (Scalar.cmpi .slt 16#32 0#32))))
      (IntOp.cmpi .ne (IntOp.remsi .vector n 16#32) 0#32))
    (IntOp.subi (IntOp.divsi .vector n 16#32) 1#32) (IntOp.divsi .vector n 16#32)

/-- The kernel's division of a column's number by 16 gives the column's expert. -/
theorem quot16_eq (c : Fin 128) : quot16 (BitVec.ofNat 32 c.val) = BitVec.ofNat 32 (expertOf c).val := by
  have : ∀ c : Fin 128, quot16 (BitVec.ofNat 32 c.val) = BitVec.ofNat 32 (expertOf c).val := by decide +kernel
  exact this c

/-- The routed columns' weighted down-projections. -/
theorem routed_at (x : Vec Ideal S256x4096 .bf16) (a : Vec Ideal S4096x256 .bf16) (b : Vec Ideal S1x8 .f32) (i0 i1 : Vec Ideal S256x1 .i32) (j : Fin 256) (c : Fin 128) :
    k0_pay18 (F := Ideal) (k0_pay6 (k0_pay2 x) a) (k0_pay9 (F := Ideal) i0) (k0_pay10 (F := Ideal) i1) (k0_pay13 (k0_pay7 (k0_pay2 x) a b) i0 i1) (k0_pay14 (k0_pay7 (k0_pay2 x) a b) i0 i1)
        (iota .tc S256x128 32 [1] iota_S256x128_d1_w32) 16#32 k0_pay16 k0_pay17 (ix2 j c)
      = (down (fun k => x (ix2 j k)) (fun k => a (ix2 k ⟨c.val, by omega⟩))
          * (weight (probs x a b j) (words i0 i1 j) (expertOf c) * Ideal.ofBits .f32 0x40000000#32) : EReal) := by
  have h : ∀ (h : FVec Ideal S256x256 .f32) (n0 n1 : IVec S256x1 32) (g0 g1 : FVec Ideal S256x1 .f32),
      k0_pay18 (F := Ideal) h n0 n1 g0 g1 (iota .tc S256x128 32 [1] iota_S256x128_d1_w32) 16#32 k0_pay16 k0_pay17 (ix2 j c)
      = (h (ix2 j ⟨c.val, by omega⟩) * ((Scalar.select (IntOp.cmpi .eq (quot16 (BitVec.ofNat 32 c.val)) (n0 (ix2 j 0))) (g0 (ix2 j 0)) 0
          + Scalar.select (IntOp.cmpi .eq (quot16 (BitVec.ofNat 32 c.val)) (n1 (ix2 j 0))) (g1 (ix2 j 0)) 0) * Ideal.ofBits .f32 0x40000000#32) : EReal) :=
    fun h n0 n1 g0 g1 => by
      pointwise [k0_pay18, k0_pay16, k0_pay17]
      rfl
  have e9 : k0_pay9 (F := Ideal) i0 (ix2 j 0) = i0 (ix2 j 0) := by pointwise [k0_pay9]
  have e10 : k0_pay10 (F := Ideal) i1 (ix2 j 0) = i1 (ix2 j 0) := by pointwise [k0_pay10]
  rw [h, down_at, pay13_at, pay14_at, quot16_eq, e9, e10, select_eq, select_eq]
  rfl

/-- The shared columns' down-projections, with zeros behind them. -/
theorem shared_at (x : Vec Ideal S256x4096 .bf16) (a : Vec Ideal S4096x256 .bf16) (j : Fin 256) (c : Fin 128) :
    k0_pay1 (F := Ideal) (k0_pay19 (k0_pay6 (k0_pay2 x) a)) k0_pay20 (k0_pay21 (F := Ideal)) (ix2 j c)
      = (if c.val < 16 then down (fun k => x (ix2 j k)) (fun k => a (ix2 k ⟨128 + c.val, by omega⟩)) * Ideal.ofBits .f32 0x40000000#32 else 0 : EReal) := by
  have h : ∀ h : FVec Ideal S256x256 .f32, k0_pay1 (F := Ideal) (k0_pay19 h) k0_pay20 (k0_pay21 (F := Ideal)) (ix2 j c)
      = (Scalar.select (IntOp.cmpi .slt (BitVec.ofNat 32 c.val) 16#32) (h (ix2 j ⟨128 + c.val, by omega⟩) * Ideal.ofBits .f32 0x40000000#32) 0 : EReal) := fun h => by
    pointwise [k0_pay1, k0_pay19, k0_pay20, k0_pay21]
  have hc : ∀ c : Fin 128, IntOp.cmpi .slt (BitVec.ofNat 32 c.val) 16#32 = if c.val < 16 then 1#1 else 0#1 := by decide +kernel
  rw [h, down_at, hc c]
  split <;> rfl

/-- One element of the base kernel's block. -/
theorem base_at (q : Vec Ideal S1536x4096 .fp8e4m3) (w : Vec Ideal S4096x256 .fp8e4m3) (s : Vec Ideal S1536x1 .f32) (ws : Vec Ideal S1x256 .f32)
    (lb : Vec Ideal S128x256 .bf16) (sb : Vec Ideal S16x256 .bf16) (hb : Vec Ideal S1536x144 .bf16) (j : Fin 1536) (c : Fin 256) :
    k1_pay1 (F := Ideal) q w s ws lb sb hb (ix2 j c)
      = ((∑ k : Fin 4096, q (ix2 j k) * w (ix2 k c)) * s (ix2 j 0) * ws (ix2 0 c)
        + (∑ k : Fin 128, hb (ix2 j ⟨k.val, by omega⟩) * lb (ix2 k c) + ∑ k : Fin 16, hb (ix2 j ⟨128 + k.val, by omega⟩) * sb (ix2 k c)) : EReal) := by
  pointwise [k1_pay1]

end Cert.KernelIdeal.Value

end
-- ==== Proof.KernelArrays.lean ====
/- The arrays the kernel's first region leaves, read at an index, from the contents the region is entered with. -/
module

public import proofs.«01_k».proof.Proof.KernelQuant
public import proofs.«01_k».proof.Proof.KernelRoute
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Cert.Value
open Idealize.ShloMosaic Idealize.ShloMosaic.TcCoe

variable (V : (c : Dev nD) → (b : Ref sig .tc) → Buf (Elt Ideal) ((c : Thread nD τ).loc b)) (c : Dev nD)

/-- Where each window of region 0 lies at a point. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `j` of point `t`'s block of 256 tokens. -/
abbrev tok (t : Fin cfg0.N) (j : Fin 256) : Fin 1536 := ⟨256 * t.val + j.val, by have h : t.val < 6 := t.isLt; omega⟩

/-- The first window of step `t` holds its 256 tokens. -/
theorem blk0_0 (t : Fin cfg0.N) (j : Fin 256) (k : Fin 4096) : iblk0 V c 0 t (ix2 j k) = V c main_v0 (ix2 (tok t j) k) := by
  blk_ext [iblk0, idx0 t]

/-- The second window holds the whole joined matrix. -/
theorem blk0_1 (t : Fin cfg0.N) (j : Fin 4096) (k : Fin 256) : iblk0 V c 1 t (ix2 j k) = V c main_v4 (ix2 j k) := by
  blk_ext [iblk0, idx0 t]

/-- The third window holds the router's bias. -/
theorem blk0_2 (t : Fin cfg0.N) (j : Fin 1) (k : Fin 8) : iblk0 V c 2 t (ix2 j k) = V c main_v5 (ix2 j k) := by
  blk_ext [iblk0, idx0 t]

/-- The fourth window of step `t` holds its tokens' index words. -/
theorem blk0_3 (t : Fin cfg0.N) (j : Fin 256) (k : Fin 2) : iblk0 V c 3 t (ix2 j k) = V c main_v6 (ix2 (tok t j) k) := by
  blk_ext [iblk0, idx0 t]

/-- Token `r`'s data, logits' weights, biases, and index words, as region 0 finds them. -/
abbrev xRow (r : Fin 1536) : Fin 4096 → EReal := fun k => V c main_v0 (ix2 r k)
/-- Column `n` of the joined matrix. -/
abbrev aCol (n : Fin 256) : Fin 4096 → EReal := fun k => V c main_v4 (ix2 k n)
/-- The two index words of token `r`. -/
abbrev iRow (r : Fin 1536) : Fin 2 → BitVec 32 := fun k => V c main_v6 (ix2 r k)
/-- The probabilities of token `r`. -/
abbrev pRow (r : Fin 1536) : Fin 8 → EReal :=
  prob (logit (xRow V c r) (fun k e => V c main_v4 (ix2 k (logitCol e))) (fun e => V c main_v5 (ix2 0 e)))

/-- The codes array after region 0. -/
theorem codes_arr : (dat0 V c).arrAt 4 cfg0.N = fun i : S1536x4096.Idx => (code (xRow V c (i 0)) (i 1) : EReal) := by
  refine (dat0 V c).arrAt_eq_of_covers 4 _ (by decide +kernel) fun t hf y => ?_
  blk_simp
  rw [after0_4]
  unfold_out out0_4
  frame_out
  change S256x4096.Idx at y
  idx_vars y
  refine (code_at _ _ _).trans ?_
  simp only [blk0_0]
  have h : ((View.whole main_v7_0).slice (win0_4.rect t)).emb (ix2 y0 y1) = ix2 (tok t y0) y1 := by
    blk_ext [idx0 t]
  rw [h]
  rfl

/-- The scale array after region 0. -/
theorem scale_arr : (dat0 V c).arrAt 5 cfg0.N = fun i : S1536x1.Idx => (scaleOf (amax (xRow V c (i 0))) : EReal) := by
  refine (dat0 V c).arrAt_eq_of_covers 5 _ (by decide +kernel) fun t hf y => ?_
  blk_simp
  rw [after0_5]
  unfold_out out0_5
  frame_out
  change S256x1.Idx at y
  idx_vars y
  obtain rfl : y1 = 0 := Subsingleton.elim _ _
  refine (scale_at _ _).trans ?_
  simp only [blk0_0]
  have h : ((View.whole main_v7_1).slice (win0_5.rect t)).emb (ix2 y0 0) = ix2 (tok t y0) 0 := by
    blk_ext [idx0 t]
  rw [h]
  rfl

/-- The two index columns of a block are the token's index words. -/
theorem words_eq (t : Fin cfg0.N) (j : Fin 256) :
    words (View.ld (iblk0 V c 3 t) r0_4) (View.ld (iblk0 V c 3 t) r0_5) j = iRow V c (tok t j) := by
  funext k
  have hk : k = 0 ∨ k = 1 := by omega
  rcases hk with rfl | rfl
  · change View.ld (iblk0 V c 3 t) r0_4 (ix2 j (0 : Fin 1)) = _
    refine Eq.trans ?_ (blk0_3 V c t j 0)
    refine View.ld_unit_apply_of (S := S256x2) _ _ _ _ (ix2 j (0 : Fin 1)) (ix2 j (0 : Fin 2)) fun a => ?_
    match a with
    | ⟨0, _⟩ => exact (Nat.zero_add _).symm
    | ⟨1, _⟩ => rfl
  · change View.ld (iblk0 V c 3 t) r0_5 (ix2 j (0 : Fin 1)) = _
    refine Eq.trans ?_ (blk0_3 V c t j 1)
    refine View.ld_unit_apply_of (S := S256x2) _ _ _ _ (ix2 j (0 : Fin 1)) (ix2 j (1 : Fin 2)) fun a => ?_
    match a with
    | ⟨0, _⟩ => exact (Nat.zero_add _).symm
    | ⟨1, _⟩ => rfl

/-- The gates array after region 0. -/
theorem gates_arr : (dat0 V c).arrAt 6 cfg0.N = fun i : S1536x2.Idx => (gate (pRow V c (i 0)) (iRow V c (i 0)) (i 1) : EReal) := by
  refine (dat0 V c).arrAt_eq_of_covers 6 _ (by decide +kernel) fun t hf y => ?_
  blk_simp
  rw [after0_6]
  unfold_out out0_6
  frame_out
  change S256x2.Idx at y
  idx_vars y
  refine (gates_at _ _ _ _ _ _ _).trans ?_
  rw [words_eq]
  simp only [blk0_0, blk0_1, blk0_2, probs]
  have h : ((View.whole main_v7_2).slice (win0_6.rect t)).emb (ix2 y0 y1) = ix2 (tok t y0) y1 := by
    blk_ext [idx0 t]
  rw [h]
  rfl

/-- A token's hidden row after region 0: the 128 routed columns weighted, the 16 shared ones doubled. -/
def hidden (r : Fin 1536) (n : Fin 256) : EReal :=
  if h : n.val < 128 then
    down (xRow V c r) (aCol V c n) * (weight (pRow V c r) (iRow V c r) (expertOf ⟨n.val, h⟩) * Ideal.ofBits .f32 0x40000000#32)
  else if n.val < 144 then down (xRow V c r) (aCol V c n) * Ideal.ofBits .f32 0x40000000#32
  else 0

/-- The hidden array after region 0. -/
theorem hidden_arr : (dat0 V c).arrAt 7 cfg0.N = fun i : S1536x256.Idx => (hidden V c (i 0) (i 1) : EReal) := by
  refine (dat0 V c).arrAt_eq_of_covers 7 _ (by decide +kernel) fun t hf y => ?_
  blk_simp
  rw [after0_7]
  unfold_out out0_7
  frame_out
  change S256x256.Idx at y
  idx_vars y
  have h : ((View.whole main_v7_3).slice (win0_7.rect t)).emb (ix2 y0 y1) = ix2 (tok t y0) y1 := by
    blk_ext [idx0 t]
  rw [h]
  change _ = hidden V c (tok t y0) y1
  canon_tiles x hx
  · change S256x128.Idx at x
    idx_vars x
    obtain rfl : y0 = x0 := Fin.ext hx0
    have hy : y1.val = 128 + x1.val := hx1
    refine (shared_at _ _ _ _).trans ?_
    simp only [blk0_0, blk0_1]
    have e : (⟨128 + x1.val, by omega⟩ : Fin 256) = y1 := Fin.ext hy.symm
    rw [e]
    unfold hidden
    rw [dif_neg (by omega)]
    exact if_congr (by omega) rfl rfl
  · change S256x128.Idx at x
    idx_vars x
    obtain rfl : y0 = x0 := Fin.ext hx0
    have hy : y1.val = x1.val := hx1
    refine (routed_at _ _ _ _ _ _ _).trans ?_
    rw [words_eq]
    simp only [blk0_0, blk0_1, blk0_2, probs]
    have e : (⟨x1.val, by omega⟩ : Fin 256) = y1 := Fin.ext hy.symm
    have e' : (⟨y1.val, by omega⟩ : Fin 128) = x1 := Fin.ext hy
    rw [e]
    unfold hidden
    rw [dif_pos (by omega), e']

end Cert.KernelIdeal.Value

end
-- ==== Proof.KernelOut.lean ====
/- The array the kernel's second region leaves, read at an index, from the contents the region is entered with. -/
module

public import proofs.«01_k».proof.Proof.KernelRoute
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Cert.Value
open Idealize.ShloMosaic Idealize.ShloMosaic.TcCoe

variable (V : (c : Dev nD) → (b : Ref sig .tc) → Buf (Elt Ideal) ((c : Thread nD τ).loc b)) (c : Dev nD)

/-- Where each window of region 1 lies at a point. -/
theorem idx1 : ∀ t : Fin cfg1.N, win1_0.index t = ![0, 0] ∧ win1_1.index t = ![0, t.val] ∧ win1_2.index t = ![0, 0]
    ∧ win1_3.index t = ![0, t.val] ∧ win1_4.index t = ![0, 0] ∧ win1_5.index t = ![0, t.val] ∧ win1_6.index t = ![0, t.val]
    ∧ win1_7.index t = ![0, t.val] :=
  (by decide +kernel : ∀ t : Fin grid1.N, _)

/-- Column `j` of point `t`'s tile of 256 output columns. -/
abbrev colOf (t : Fin cfg1.N) (j : Fin 256) : Fin 11008 := ⟨256 * t.val + j.val, by have h : t.val < 43 := t.isLt; omega⟩

/-- The first window holds all the codes. -/
theorem blk1_0 (t : Fin cfg1.N) (j : Fin 1536) (k : Fin 4096) : iblk1 V c 0 t (ix2 j k) = V c main_v7_0 (ix2 j k) := by
  blk_ext [iblk1, idx1 t]

/-- The second window of step `t` holds its columns of the weights. -/
theorem blk1_1 (t : Fin cfg1.N) (j : Fin 4096) (k : Fin 256) : iblk1 V c 1 t (ix2 j k) = V c main_arg1 (ix2 j (colOf t k)) := by
  blk_ext [iblk1, idx1 t]

/-- The third window holds all the scales. -/
theorem blk1_2 (t : Fin cfg1.N) (j : Fin 1536) : iblk1 V c 2 t (ix2 j 0) = V c main_v7_1 (ix2 j 0) := by
  blk_ext [iblk1, idx1 t]

/-- The fourth window of step `t` holds its columns' scales. -/
theorem blk1_3 (t : Fin cfg1.N) (k : Fin 256) : iblk1 V c 3 t (ix2 0 k) = V c main_v8 (ix2 0 (colOf t k)) := by
  blk_ext [iblk1, idx1 t]

/-- The fifth window holds all the weighted down-projections. -/
theorem blk1_4 (t : Fin cfg1.N) (j : Fin 1536) (k : Fin 256) : iblk1 V c 4 t (ix2 j k) = V c main_v7_3 (ix2 j k) := by
  blk_ext [iblk1, idx1 t]

/-- The sixth window of step `t` holds its columns of the experts' up-projections. -/
theorem blk1_5 (t : Fin cfg1.N) (j : Fin 128) (k : Fin 256) : iblk1 V c 5 t (ix2 j k) = V c main_v9 (ix2 j (colOf t k)) := by
  blk_ext [iblk1, idx1 t]

/-- The seventh window of step `t` holds its columns of the shared up-projection. -/
theorem blk1_6 (t : Fin cfg1.N) (j : Fin 16) (k : Fin 256) : iblk1 V c 6 t (ix2 j k) = V c main_arg9 (ix2 j (colOf t k)) := by
  blk_ext [iblk1, idx1 t]

/-- What region 1 is entered with, as matrices of extended reals. -/
abbrev qIn (r : Fin 1536) (k : Fin 4096) : EReal := V c main_v7_0 (ix2 r k)
/-- The weight at row `k`, column `n`. -/
abbrev wIn (k : Fin 4096) (n : Fin 11008) : EReal := V c main_arg1 (ix2 k n)
/-- The scale of token `r`. -/
abbrev sIn (r : Fin 1536) : EReal := V c main_v7_1 (ix2 r (0 : Fin 1))
/-- The scale of column `n`. -/
abbrev wsIn (n : Fin 11008) : EReal := V c main_v8 (ix2 (0 : Fin 1) n)
/-- The weighted down-projection `k` of token `r`. -/
abbrev hbIn (r : Fin 1536) (k : Fin 256) : EReal := V c main_v7_3 (ix2 r k)
/-- The experts' up-projections, one under the other. -/
abbrev lbIn (k : Fin 128) (n : Fin 11008) : EReal := V c main_v9 (ix2 k n)
/-- The shared up-projection. -/
abbrev sbIn (k : Fin 16) (n : Fin 11008) : EReal := V c main_arg9 (ix2 k n)

/-- One element of the output, from what region 1 is entered with. -/
def outRaw (r : Fin 1536) (n : Fin 11008) : EReal :=
  (∑ k : Fin 4096, qIn V c r k * wIn V c k n) * sIn V c r * wsIn V c n
    + (∑ k : Fin 128, hbIn V c r ⟨k.val, by omega⟩ * lbIn V c k n + ∑ k : Fin 16, hbIn V c r ⟨128 + k.val, by omega⟩ * sbIn V c k n)

/-- A load of the first 144 columns. -/
theorem ld144 (X : Vec Ideal S1536x256 .bf16) (j : Fin 1536) (k : Fin 144) : View.ld X r1_6 (ix2 j k) = X (ix2 j (⟨k.val, by omega⟩ : Fin 256)) := by
  refine View.ld_unit_apply_of (S := S1536x256) _ _ _ _ (ix2 j k) (ix2 j (⟨k.val, by omega⟩ : Fin 256)) fun a => ?_
  match a with
  | ⟨0, _⟩ => exact (Nat.zero_add _).symm
  | ⟨1, _⟩ => exact (Nat.zero_add _).symm

/-- The output array after region 1. -/
theorem out_arr : (dat1 V c).arrAt 7 cfg1.N = fun i : S1536x11008.Idx => (outRaw V c (i 0) (i 1) : EReal) := by
  refine (dat1 V c).arrAt_eq_of_covers 7 _ (by decide +kernel) fun t hf y => ?_
  blk_simp
  rw [after1_7]
  unfold out1_7
  frame_out
  change S1536x256.Idx at y
  idx_vars y
  have h : ((View.whole main_v10).slice (win1_7.rect t)).emb (ix2 y0 y1) = ix2 y0 (colOf t y1) := by
    blk_ext [idx1 t]
  rw [h]
  change _ = outRaw V c y0 (colOf t y1)
  refine (base_at _ _ _ _ _ _ _ _ _).trans ?_
  unfold outRaw
  have e0 : ∀ k, iblk1 V c 0 t (ix2 y0 k) = qIn V c y0 k := blk1_0 V c t y0
  have e1 : ∀ k, iblk1 V c 1 t (ix2 k y1) = wIn V c k (colOf t y1) := fun k => blk1_1 V c t k y1
  have e2 : iblk1 V c 2 t (ix2 y0 0) = sIn V c y0 := blk1_2 V c t y0
  have e3 : iblk1 V c 3 t (ix2 0 y1) = wsIn V c (colOf t y1) := blk1_3 V c t y1
  have e4 : ∀ k, iblk1 V c 4 t (ix2 y0 k) = hbIn V c y0 k := blk1_4 V c t y0
  have e5 : ∀ k, iblk1 V c 5 t (ix2 k y1) = lbIn V c k (colOf t y1) := fun k => blk1_5 V c t k y1
  have e6 : ∀ k, iblk1 V c 6 t (ix2 k y1) = sbIn V c k (colOf t y1) := fun k => blk1_6 V c t k y1
  refine congrArg₂ (· + ·) (congrArg₂ (· * ·) (congrArg₂ (· * ·) ?_ e2) e3) (congrArg₂ (· + ·) ?_ ?_)
  · exact Finset.sum_congr rfl fun k _ => congrArg₂ (· * ·) (e0 k) (e1 k)
  · exact Finset.sum_congr rfl fun k _ => congrArg₂ (· * ·) ((ld144 _ _ _).trans (e4 _)) (e5 k)
  · exact Finset.sum_congr rfl fun k _ => congrArg₂ (· * ·) ((ld144 _ _ _).trans (e4 _)) (e6 k)

end Cert.KernelIdeal.Value

end
-- ==== Proof.KernelHost.lean ====
/- What the kernel program's host operations hand to the two regions, read at an index from the arguments. -/
module

public import proofs.«01_k».proof.Proof.KernelRoute
public import proofs.«01_k».proof.Proof.Gen.KernelIdeal.Frame
public import Idealize.ShloMosaic.Lib.StableHlo.ReadAt
public import Idealize.ShloMosaic.Lib.Pipeline.ValueKit

@[expose] public section

set_option maxRecDepth 16384

noncomputable section

namespace Cert.KernelIdeal.Value

open Cert.KernelIdeal Cert.KernelIdeal.Gen Cert.Value
open Idealize.ShloMosaic Idealize.ShloMosaic.TcCoe

variable (m : (ℓ : Loc nD τ sig) → Buf (Elt Ideal) ℓ) (ρ : Dev nD → PrngReg) (c : Dev nD)

/-- The row of the token at position `s` of sequence `b`. -/
abbrev rowOf (b : Fin 4) (s : Fin 384) : Fin 1536 := ⟨b.val * 384 + s.val, by omega⟩

/-- The batch of a flattened token. -/
theorem rowOf_div (b : Fin 4) (s : Fin 384) (h) : (⟨(b.val * 384 + s.val) / 384, h⟩ : Fin 4) = b := Fin.ext (by simp only []; omega)

/-- The place in its batch of a flattened token. -/
theorem rowOf_mod (b : Fin 4) (s : Fin 384) (h) : (⟨(b.val * 384 + s.val) % 384, h⟩ : Fin 384) = s := Fin.ext (by simp only []; omega)

/-- Region 0's tokens are the argument's, joined over the sequences. -/
theorem v0_at (b : Fin 4) (s : Fin 384) (k : Fin 4096) :
    V1 m ρ c main_v0 (ix2 (rowOf b s) k) = m ((c : Thread nD τ).loc main_arg0) (ix3 b s k) := by
  unfold V1 W1
  after_reads_at
  rw [rowOf_div, rowOf_mod]

/-- Region 0's index words are the argument's, joined over the sequences. -/
theorem v6_at (b : Fin 4) (s : Fin 384) (k : Fin 2) :
    V1 m ρ c main_v6 (ix2 (rowOf b s) k) = m ((c : Thread nD τ).loc main_arg5) (ix3 b s k) := by
  unfold V1 W1
  after_reads_at
  rw [rowOf_div, rowOf_mod]

/-- Region 0's biases are the argument's. -/
theorem v5_at (e : Fin 8) :
    V1 m ρ c main_v5 (ix2 0 e) = m ((c : Thread nD τ).loc main_arg4) (ix1 e) := by
  unfold V1 W1
  after_reads_at

/-- The experts' down-projections, joined: column `16 e + r` is column `r` of expert `e`. -/
theorem v2_at (k : Fin 4096) (n : Fin 128) :
    V1 m ρ c main_v2 (ix2 k n) = m ((c : Thread nD τ).loc main_arg6) (ix3 (expertOf n) k (⟨n.val % 16, by omega⟩ : Fin 16)) := by
  unfold V1 W1
  after_reads_at

/-- The contents that the joining operation reads. -/
theorem v2_read (k : Fin 4096) (n : Fin 128) : (StableHlo.reshape (Val := Elt Ideal) main_v1 main_v2 rfl shapeCasts_S4096x8x16_S4096x128 hostOps0._proof_4 hostOps0._proof_5).result
      (StableHlo.upto hostOps0 (W0 m ρ c) 2) (Proc.tc.devRef main_v2) (ix2 k n) = V1 m ρ c main_v2 (ix2 k n) :=
  congrFun (StableHlo.after_last_write (ops := hostOps0) (i := 2) (r := main_v2) [main_cst, main_v3, main_v4, main_v5, main_v6] rfl rfl (by decide) _).symm _

/-- The first 128 columns of the joined matrix. -/
theorem v4_routed (k : Fin 4096) (n : Fin 128) :
    V1 m ρ c main_v4 (ix2 k (⟨n.val, by omega⟩ : Fin 256)) = m ((c : Thread nD τ).loc main_arg6) (ix3 (expertOf n) k (⟨n.val % 16, by omega⟩ : Fin 16)) := by
  refine Eq.trans ?_ (v2_at m ρ c k n)
  generalize hR : V1 m ρ c main_v2 (ix2 k n) = R
  unfold V1 W1
  after_reads_at
  exact (v2_read m ρ c k n).trans hR

/-- Columns 128 to 143 of the joined matrix. -/
theorem v4_shared (k : Fin 4096) (n : Fin 16) :
    V1 m ρ c main_v4 (ix2 k (⟨128 + n.val, by omega⟩ : Fin 256)) = m ((c : Thread nD τ).loc main_arg8) (ix2 k n) := by
  unfold V1 W1
  after_reads_at

/-- Columns 144 to 151 of the joined matrix. -/
theorem v4_router (k : Fin 4096) (n : Fin 8) :
    V1 m ρ c main_v4 (ix2 k (logitCol n)) = m ((c : Thread nD τ).loc main_arg3) (ix2 k n) := by
  unfold V1 W1
  after_reads_at
  rw [dif_neg (by omega), dif_neg (by omega), dif_pos (by omega)]
  have e : (⟨144 + n.val - 128 - 16, by omega⟩ : Fin 8) = n := Fin.ext (by simp only []; omega)
  rw [e]

/-- Region 1's column scales are the argument's. -/
theorem v8_at (n : Fin 11008) : V3 m ρ c main_v8 (ix2 0 n) = m ((c : Thread nD τ).loc main_arg2) (ix1 n) := by
  refine Eq.trans ?_ (congrFun (W2_args m ρ c main_arg2 (by decide)) (ix1 n))
  unfold V3 W3
  generalize W2 m ρ c = W
  after_reads_at

/-- The experts' up-projections, joined: row `16 e + r` is row `r` of expert `e`. -/
theorem v9_at (k : Fin 128) (n : Fin 11008) :
    V3 m ρ c main_v9 (ix2 k n) = m ((c : Thread nD τ).loc main_arg7) (ix3 (expertOf k) (⟨k.val % 16, by omega⟩ : Fin 16) n) := by
  refine Eq.trans ?_ (congrFun (W2_args m ρ c main_arg7 (by decide)) _)
  unfold V3 W3
  generalize W2 m ρ c = W
  after_reads_at

/-- The first result: each result is a region's array, cut into sequences. -/
theorem v11_at (b : Fin 4) (s : Fin 384) (n : Fin 11008) :
    W5 m ρ c (Proc.devRef .tc main_v11) (ix3 b s n) = W4 m ρ c (Proc.devRef .tc main_v10) (ix2 (rowOf b s) n) := by
  unfold W5
  generalize W4 m ρ c = W
  after_reads_at

/-- The second result. -/
theorem v12_at (b : Fin 4) (s : Fin 384) (n : Fin 2) :
    W5 m ρ c (Proc.devRef .tc main_v12) (ix3 b s n) = W4 m ρ c (Proc.devRef .tc main_v7_2) (ix2 (rowOf b s) n) := by
  unfold W5
  generalize W4 m ρ c = W
  after_reads_at

/-- The third result. -/
theorem v13_at (b : Fin 4) (s : Fin 384) (n : Fin 4096) :
    W5 m ρ c (Proc.devRef .tc main_v13) (ix3 b s n) = W4 m ρ c (Proc.devRef .tc main_v7_0) (ix2 (rowOf b s) n) := by
  unfold W5
  generalize W4 m ρ c = W
  after_reads_at

/-- The fourth result. -/
theorem v14_at (b : Fin 4) (s : Fin 384) :
    W5 m ρ c (Proc.devRef .tc main_v14) (ix2 b s) = W4 m ρ c (Proc.devRef .tc main_v7_1) (ix2 (rowOf b s) 0) := by
  unfold W5
  generalize W4 m ρ c = W
  after_reads_at

end Cert.KernelIdeal.Value

end
-- ==== Proof.KernelValue.lean ====
/- The kernel program's four results as functions of its ten arguments. -/
module

public import proofs.«01_k».proof.Proof.Args
public import proofs.«01_k».proof.Proof.KernelArrays
public import proofs.«01_k».proof.Proof.KernelOut
public import proofs.«01_k».proof.Proof.KernelHost

@[expose] public section

set_option maxRecDepth 16384

noncomputable section

namespace Cert.KernelIdeal.Value

open Cert.KernelIdeal Cert.KernelIdeal.Gen Cert.Value
open Idealize.ShloMosaic Idealize.ShloMosaic.TcCoe

variable (m : (ℓ : Loc nD τ sig) → Buf (Elt Ideal) ℓ) (ρ : Dev nD → PrngReg) (c : Dev nD)

/-- A device's arguments. -/
def args : Args where
  x b s k := m ((c : Thread nD τ).loc main_arg0) (ix3 b s k)
  w k n := m ((c : Thread nD τ).loc main_arg1) (ix2 k n)
  ws n := m ((c : Thread nD τ).loc main_arg2) (ix1 n)
  rw k e := m ((c : Thread nD τ).loc main_arg3) (ix2 k e)
  rb e := m ((c : Thread nD τ).loc main_arg4) (ix1 e)
  idx b s k := m ((c : Thread nD τ).loc main_arg5) (ix3 b s k)
  la e k r := m ((c : Thread nD τ).loc main_arg6) (ix3 e k r)
  lb e r n := m ((c : Thread nD τ).loc main_arg7) (ix3 e r n)
  sa k r := m ((c : Thread nD τ).loc main_arg8) (ix2 k r)
  sb r n := m ((c : Thread nD τ).loc main_arg9) (ix2 r n)

/-- A token's row is the argument's. -/
theorem xRow_eq (b : Fin 4) (s : Fin 384) : xRow (V1 m ρ) c (rowOf b s) = (args m c).x b s :=
  funext fun k => v0_at m ρ c b s k

/-- A token's index words are the argument's. -/
theorem iRow_eq (b : Fin 4) (s : Fin 384) : iRow (V1 m ρ) c (rowOf b s) = (args m c).idx b s :=
  funext fun k => v6_at m ρ c b s k

/-- A token's probabilities are those of the arguments. -/
theorem pRow_eq (b : Fin 4) (s : Fin 384) : pRow (V1 m ρ) c (rowOf b s) = (args m c).probs b s := by
  have hw : (fun (k : Fin 4096) (e : Fin 8) => (V1 m ρ c main_v4 (ix2 k (logitCol e)) : EReal)) = (args m c).rw :=
    funext fun k => funext fun e => v4_router m ρ c k e
  have hb : (fun e : Fin 8 => (V1 m ρ c main_v5 (ix2 0 e) : EReal)) = (args m c).rb := funext fun e => v5_at m ρ c e
  unfold pRow Args.probs
  rw [xRow_eq, hw, hb]

/-- Expert and column of a joined column. -/
theorem expertOf_col (e : Fin 8) (r : Fin 16) (h) : expertOf (⟨e.val * 16 + r.val, h⟩ : Fin 128) = e := Fin.ext (by simp only [expertOf]; omega)
/-- The place of a column within its expert. -/
theorem mod_col (e : Fin 8) (r : Fin 16) (h) : (⟨(e.val * 16 + r.val) % 16, h⟩ : Fin 16) = r := Fin.ext (by simp only []; omega)

/-- The down-projection's column for expert `e`'s column `r`. -/
theorem aCol_routed (e : Fin 8) (r : Fin 16) :
    aCol (V1 m ρ) c (⟨e.val * 16 + r.val, by omega⟩ : Fin 256) = fun k => (args m c).la e k r := by
  funext k
  refine (v4_routed m ρ c k (⟨e.val * 16 + r.val, by omega⟩ : Fin 128)).trans ?_
  rw [expertOf_col]
  simp only [mod_col]
  rfl

/-- The down-projection's column for the shared adapter's column `r`. -/
theorem aCol_shared (r : Fin 16) : aCol (V1 m ρ) c (⟨128 + r.val, by omega⟩ : Fin 256) = fun k => (args m c).sa k r :=
  funext fun k => v4_shared m ρ c k r

/-- What the second region reads of the first's arrays. -/
theorem qIn_eq (b : Fin 4) (s : Fin 384) (k : Fin 4096) : qIn (V3 m ρ) c (rowOf b s) k = code ((args m c).x b s) k := by
  have h : (V3 m ρ c main_v7_0 : S1536x4096.Idx → EReal) = _ :=
    (W3_of m ρ c main_v7_0 (by decide)).trans ((W2_arr m ρ c 4).trans (codes_arr (V1 m ρ) c))
  rw [← xRow_eq m ρ]
  exact congrFun h (ix2 (rowOf b s) k)

/-- The second region is entered with the scales of the tokens. -/
theorem sIn_eq (b : Fin 4) (s : Fin 384) : sIn (V3 m ρ) c (rowOf b s) = scaleOf (amax ((args m c).x b s)) := by
  have h : (V3 m ρ c main_v7_1 : S1536x1.Idx → EReal) = _ :=
    (W3_of m ρ c main_v7_1 (by decide)).trans ((W2_arr m ρ c 5).trans (scale_arr (V1 m ρ) c))
  rw [← xRow_eq m ρ]
  exact congrFun h (ix2 (rowOf b s) 0)

/-- The second region is entered with the weighted down-projections the first leaves. -/
theorem hbIn_eq (r : Fin 1536) (k : Fin 256) : hbIn (V3 m ρ) c r k = hidden (V1 m ρ) c r k := by
  have h : (V3 m ρ c main_v7_3 : S1536x256.Idx → EReal) = _ :=
    (W3_of m ρ c main_v7_3 (by decide)).trans ((W2_arr m ρ c 7).trans (hidden_arr (V1 m ρ) c))
  exact congrFun h (ix2 r k)

/-- The hidden activations for expert `e`'s column `r`. -/
theorem hb_routed (b : Fin 4) (s : Fin 384) (e : Fin 8) (r : Fin 16) :
    hbIn (V3 m ρ) c (rowOf b s) (⟨e.val * 16 + r.val, by omega⟩ : Fin 256)
      = down ((args m c).x b s) (fun k => (args m c).la e k r)
        * (weight ((args m c).probs b s) ((args m c).idx b s) e * Ideal.ofBits .f32 0x40000000#32) := by
  rw [hbIn_eq]
  unfold hidden
  rw [dif_pos (show e.val * 16 + r.val < 128 by omega), expertOf_col, pRow_eq, iRow_eq, xRow_eq, aCol_routed]

/-- The hidden activations for the shared adapter's column `r`. -/
theorem hb_shared (b : Fin 4) (s : Fin 384) (r : Fin 16) :
    hbIn (V3 m ρ) c (rowOf b s) (⟨128 + r.val, by omega⟩ : Fin 256)
      = down ((args m c).x b s) (fun k => (args m c).sa k r) * Ideal.ofBits .f32 0x40000000#32 := by
  rw [hbIn_eq]
  unfold hidden
  rw [dif_neg (show ¬ 128 + r.val < 128 by omega), if_pos (show 128 + r.val < 144 by omega), xRow_eq, aCol_shared]

/-- The up-projections and the weights as the second region finds them. -/
theorem lbIn_eq (e : Fin 8) (r : Fin 16) (n : Fin 11008) :
    lbIn (V3 m ρ) c (⟨e.val * 16 + r.val, by omega⟩ : Fin 128) n = (args m c).lb e r n := by
  refine (v9_at m ρ c _ n).trans ?_
  rw [expertOf_col]
  simp only [mod_col]
  rfl

/-- The second region is entered with the shared up-projection. -/
theorem sbIn_eq (r : Fin 16) (n : Fin 11008) : sbIn (V3 m ρ) c r n = (args m c).sb r n :=
  congrFun (W3_args m ρ c main_arg9 (by decide)) (ix2 r n)

/-- The second region is entered with the weights. -/
theorem wIn_eq (k : Fin 4096) (n : Fin 11008) : wIn (V3 m ρ) c k n = (args m c).w k n :=
  congrFun (W3_args m ρ c main_arg1 (by decide)) (ix2 k n)

/-- The second region is entered with the columns' scales. -/
theorem wsIn_eq (n : Fin 11008) : wsIn (V3 m ρ) c n = (args m c).ws n := v8_at m ρ c n

/-- One entry of the second region's array in the arguments. -/
theorem outRaw_eq (b : Fin 4) (s : Fin 384) (n : Fin 11008) : outRaw (V3 m ρ) c (rowOf b s) n = (args m c).out b s n := by
  unfold outRaw Args.out outElt
  rw [sum_columns, sIn_eq, wsIn_eq, ← add_assoc]
  refine congrArg₂ _ (congrArg₂ _ (congrArg₂ _ (congrArg₂ _ ?_ rfl) rfl) ?_) ?_
  · exact Finset.sum_congr rfl fun k _ => by rw [qIn_eq, wIn_eq]
  · refine Finset.sum_congr rfl fun e _ => Finset.sum_congr rfl fun r _ => ?_
    rw [lbIn_eq]
    exact congrArg (· * _) (hb_routed m ρ c b s e r)
  · refine Finset.sum_congr rfl fun r _ => ?_
    rw [sbIn_eq]
    exact congrArg (· * _) (hb_shared m ρ c b s r)

/-- The output. -/
theorem out_value (b : Fin 4) (s : Fin 384) (n : Fin 11008) :
    W5 m ρ c (Proc.devRef .tc main_v11) (ix3 b s n) = (args m c).out b s n := by
  refine (v11_at m ρ c b s n).trans (Eq.trans ?_ (outRaw_eq m ρ c b s n))
  exact congrFun ((W4_arr m ρ c 7).trans (out_arr (V3 m ρ) c)) (ix2 (rowOf b s) n)

/-- The gates. -/
theorem gates_value (b : Fin 4) (s : Fin 384) (k : Fin 2) :
    W5 m ρ c (Proc.devRef .tc main_v12) (ix3 b s k) = (args m c).gates b s k := by
  refine (v12_at m ρ c b s k).trans ?_
  have h : (W4 m ρ c (Proc.devRef .tc main_v7_2) : S1536x2.Idx → EReal) = _ :=
    (W4_of m ρ c main_v7_2 (by decide +kernel)).trans ((W3_of m ρ c main_v7_2 (by decide)).trans
      ((W2_arr m ρ c 6).trans (gates_arr (V1 m ρ) c)))
  unfold Args.gates
  rw [← pRow_eq m ρ, ← iRow_eq m ρ]
  exact congrFun h (ix2 (rowOf b s) k)

/-- The codes. -/
theorem codes_value (b : Fin 4) (s : Fin 384) (k : Fin 4096) :
    W5 m ρ c (Proc.devRef .tc main_v13) (ix3 b s k) = (args m c).codes b s k := by
  refine (v13_at m ρ c b s k).trans (Eq.trans ?_ (qIn_eq m ρ c b s k))
  exact congrFun (W4_of m ρ c main_v7_0 (by decide +kernel)) (ix2 (rowOf b s) k)

/-- The scales. -/
theorem scale_value (b : Fin 4) (s : Fin 384) :
    W5 m ρ c (Proc.devRef .tc main_v14) (ix2 b s) = (args m c).scale b s := by
  refine (v14_at m ρ c b s).trans (Eq.trans ?_ (sIn_eq m ρ c b s))
  exact congrFun (W4_of m ρ c main_v7_1 (by decide +kernel)) (ix2 (rowOf b s) 0)

end Cert.KernelIdeal.Value

end
-- ==== Proof.ReferenceQuant.lean ====
/- The reference's quantiser and its product over the whole array, read at an index. -/
module

public import proofs.«01_k».proof.Proof.Spec
public import proofs.«01_k».proof.Proof.Gen.ReferenceIdeal.Skeleton
public import Idealize.ShloMosaic.Lib.Pointwise
public import Idealize.ShloMosaic.PureOps.Ideal.Laws

@[expose] public section

set_option maxRecDepth 16384

noncomputable section

namespace Cert.ReferenceIdeal.Value

open Idealize.ShloMosaic Cert.ReferenceIdeal Cert.ReferenceIdeal.Gen Cert.Value

/-- The maximum over a row. -/
theorem rowMax (w : FVec Ideal S1536x4096 .f32) (j : Fin 1536) :
    multiReduction .maximumf [1] S1536 w 0xFF800000#32 reduces_S1536x4096_S1536 (.inl rfl) rfl (ix1 j)
      = Finset.univ.fold max (Ideal.ofBits FTy.f32 0xFF800000#32) (fun x => w (ix2 j x)) := by
  pointwise

/-- The row of largest magnitudes. -/
theorem rowAmax (v : Vec Ideal S1536x4096 .bf16) (j : Fin 1536) :
    multiReduction .maximumf [1] S1536 (absf (k0_pay3 (F := Ideal) v)) 0xFF800000#32 reduces_S1536x4096_S1536 (.inl rfl) rfl (ix1 j)
      = amax fun k => v (ix2 j k) := by
  rw [rowMax, ofBits_f32_bot]
  unfold amax
  congr 1
  funext k
  pointwise [k0_pay3]
  rfl

/-- The least over a row of exponent candidates. -/
theorem rowMin (w : IVec S1536x254 32) (j : Fin 1536) :
    multiReductionI .minsi [1] S1536 w 2147483647#32 reduces_S1536x254_S1536 rfl (ix1 j)
      = Finset.univ.fold IntOp.minsi 2147483647#32 (fun x => w (ix2 j x)) := by
  pointwise

/-- The candidates' exponents. -/
def exps : IVec S1x254 32 :=
  have v6 : IVec S1x254 32 := iota .tc S1x254 32 [1] iota_S1x254_d1_w32
  have v7 : IVec S1x254 32 := broadcast S1x254 126#32
  subi v6 v7

/-- Candidate `x` is the word of the exponent `x - 126`. -/
theorem exps_at (x : Fin 254) : exps (ix2 0 x) = expWord x := by
  pointwise [exps]
  rfl

/-- The candidates a row may take, from the row of magnitudes: the exponents of the powers above it. -/
def above (m : FVec Ideal S1536 .f32) : IVec S1536x254 32 :=
  have v5 : FVec Ideal S1536x1 .f32 := shapeCast S1536x1 m shapeCasts_S1536_S1536x1
  have v9 : FVec Ideal S1536x1 .f32 := broadcast S1536x1 (Scalar.ofBits .f32 0x3B124925#32)
  have v10 : FVec Ideal S1536x1 .f32 := mulf v5 v9
  have v11 : FVec Ideal S1x254 .f32 := sitofp .f32 exps
  have v12 : FVec Ideal S1x254 .f32 := exp2 v11
  have v13 : FVec Ideal S1536x254 .f32 := broadcastTo S1536x254 v10 broadcasts_S1536x1_S1536x254
  have v14 : FVec Ideal S1536x254 .f32 := broadcastTo S1536x254 v12 broadcasts_S1x254_S1536x254
  have v15 : IVec S1536x254 1 := cmpf .olt v13 v14
  have v16 : IVec S1x254 32 := shapeCast S1x254 exps shapeCasts_S1x254_S1x254
  have v17 : IVec S1536x254 32 := broadcastTo S1536x254 v16 broadcasts_S1x254_S1536x254
  have v18 : IVec S1536x254 32 := broadcast S1536x254 128#32
  select v15 v17 v18

/-- A candidate is its exponent where its power of two exceeds the threshold, and 128 elsewhere. -/
theorem above_at (m : FVec Ideal S1536 .f32) (j : Fin 1536) (x : Fin 254) :
    above m (ix2 j x) = if m (ix1 j) * Ideal.ofBits .f32 0x3B124925#32 < pow2 x then expWord x else 128#32 := by
  have h : (FloatOps.exp2 (FloatOps.sitofp .f32 (exps (ix2 0 x)) : Ideal .f32) : Ideal .f32) = pow2 x := by
    rw [exps_at, exp2_expWord _ (by omega)]
  rw [← h, ← exps_at]
  pointwise [above]

/-- The exponent words, from the row of magnitudes. -/
def expoCore (m : FVec Ideal S1536 .f32) : IVec S1536x1 32 :=
  have v5 : FVec Ideal S1536x1 .f32 := shapeCast S1536x1 m shapeCasts_S1536_S1536x1
  have v6 : FVec Ideal S1536x1 .f32 := broadcast S1536x1 (Scalar.ofBits .f32 0x3B124925#32)
  have v7 : FVec Ideal S1536x1 .f32 := mulf v5 v6
  have v20 : IVec S1536 32 := multiReductionI .minsi [1] S1536 (above m) 2147483647#32 reduces_S1536x254_S1536 rfl
  have v21 : IVec S1536x1 32 := shapeCast S1536x1 v20 shapeCasts_S1536_S1536x1
  have v22 : FVec Ideal S1536x1 .f32 := broadcast S1536x1 (Scalar.ofBits .f32 0x00800000#32)
  have v23 : IVec S1536x1 1 := cmpf .oge v7 v22
  have v24 : FVec Ideal S1536x1 .f32 := broadcast S1536x1 (Scalar.ofBits .f32 0x7F800000#32)
  have v25 : IVec S1536x1 1 := cmpf .olt v7 v24
  have v26 : IVec S1536x1 1 := andi v23 v25
  have v27 : IVec S1536x1 32 := broadcast S1536x1 0#32
  have v28 : IVec S1536x1 32 := select v26 v21 v27
  have v29 : FVec Ideal S1536x1 .f32 := broadcast S1536x1 (Scalar.ofBits .f32 0x00000000#32)
  have v30 : IVec S1536x1 1 := cmpf .oeq v5 v29
  have v31 : IVec S1536x1 32 := broadcast S1536x1 0#32
  select v30 v31 v28

/-- The printed exponent words are those of the row of largest magnitudes. -/
theorem pay4_eq (v : Vec Ideal S1536x4096 .bf16) : k0_pay4 (F := Ideal) v
    = expoCore (multiReduction .maximumf [1] S1536 (absf (k0_pay3 (F := Ideal) v)) 0xFF800000#32 reduces_S1536x4096_S1536 (.inl rfl) rfl) := rfl

/-- The exponent word of a row is `expo` of the row's magnitude. -/
theorem expoCore_at (m : FVec Ideal S1536 .f32) (j : Fin 1536) : expoCore m (ix2 j 0) = expo (m (ix1 j)) := by
  have h : expoCore m (ix2 j 0) = if m (ix1 j) = 0 then 0#32 else
      frexpOf (m (ix1 j) * Ideal.ofBits .f32 0x3B124925#32)
        (multiReductionI .minsi [1] S1536 (above m) 2147483647#32 reduces_S1536x254_S1536 rfl (ix1 j)) := by
    rw [← select_normal _ (Ideal.ofBits .f32 0x7F800000#32) _ ofBits_f32_inf]
    unfold expoCore
    generalize multiReductionI .minsi [1] S1536 (above m) 2147483647#32 reduces_S1536x254_S1536 rfl = g
    pointwise
  rw [h, rowMin]
  simp only [above_at]
  rw [fold_least]
  rfl

/-- The exponent word of a token. -/
theorem pay4_at (v : Vec Ideal S1536x4096 .bf16) (j : Fin 1536) :
    k0_pay4 (F := Ideal) v (ix2 j 0) = expo (amax fun k => v (ix2 j k)) := by
  rw [pay4_eq, expoCore_at, rowAmax]

/-- The scale of a token. -/
theorem scale_at (v : Vec Ideal S1536x4096 .bf16) (j : Fin 1536) :
    k0_pay5 (F := Ideal) v (ix2 j 0) = (scaleOf (amax fun k => v (ix2 j k)) : EReal) := by
  unfold scaleOf ldexpOne
  rw [← pay4_at]
  unfold k0_pay5
  generalize k0_pay4 (F := Ideal) v = e
  pointwise
  first | done | rfl

/-- A code of a token. -/
theorem code_at (v : Vec Ideal S1536x4096 .bf16) (j : Fin 1536) (k : Fin 4096) :
    k0_pay1 (F := Ideal) (k0_pay3 v) (k0_pay4 (F := Ideal) v) 0#32 (ix2 j k) = (code (fun k => v (ix2 j k)) k : EReal) := by
  unfold code invOf ldexpOne
  rw [← pay4_at]
  generalize k0_pay4 (F := Ideal) v = e
  pointwise [k0_pay1, k0_pay3]
  first | done | rfl

/-- An entry of the product of codes and weights. -/
theorem product_at (y : FVec Ideal S1536x4096 .f32) (e : IVec S1536x1 32) (z : BitVec 32) (w : Vec Ideal S4096x11008 .fp8e4m3) (j : Fin 1536) (n : Fin 11008) :
    k0_pay2 (F := Ideal) y e z w (ix2 j n) = (∑ k : Fin 4096, (k0_pay1 (F := Ideal) y e z (ix2 j k) : EReal) * (w (ix2 k n) : EReal) : EReal) := by
  unfold k0_pay2
  generalize k0_pay1 (F := Ideal) y e z = q
  pointwise
  first | done | rfl

end Cert.ReferenceIdeal.Value

end
-- ==== Proof.ReferenceArrays.lean ====
/- The arrays the reference's region leaves, read at an index, from the arguments. -/
module

public import proofs.«01_k».proof.Proof.ReferenceQuant
public import proofs.«01_k».proof.Proof.Gen.ReferenceIdeal.Frame
public import Idealize.ShloMosaic.Lib.StableHlo.ReadAt
public import Idealize.ShloMosaic.Lib.Pipeline.ValueKit

@[expose] public section

set_option maxRecDepth 16384

noncomputable section

namespace Cert.ReferenceIdeal.Value

open Cert.ReferenceIdeal Cert.ReferenceIdeal.Gen Cert.Value
open Idealize.ShloMosaic Idealize.ShloMosaic.TcCoe

variable (m : (ℓ : Loc nD τ sig) → Buf (Elt Ideal) ℓ) (c : Dev nD)

/-- Where each window lies at the one point. -/
theorem idx0 : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The first window holds all the tokens. -/
theorem blk0_0 (t : Fin cfg0.N) (j : Fin 1536) (k : Fin 4096) : iblk m c 0 t (ix2 j k) = V m c main_v0 (ix2 j k) := by
  blk_ext [iblk, idx0 t]

/-- The second window holds all the weights. -/
theorem blk0_1 (t : Fin cfg0.N) (j : Fin 4096) (k : Fin 11008) : iblk m c 1 t (ix2 j k) = V m c main_arg1 (ix2 j k) := by
  blk_ext [iblk, idx0 t]

/-- Token `r`'s data, and a column of weights, as the region finds them. -/
abbrev xRow (r : Fin 1536) : Fin 4096 → EReal := fun k => V m c main_v0 (ix2 r k)
/-- Column `n` of the weights. -/
abbrev wCol (n : Fin 11008) : Fin 4096 → EReal := fun k => V m c main_arg1 (ix2 k n)

/-- The codes array after the region. -/
theorem codes_arr : (dats m 0 c).arrAt 2 cfg0.N = fun i : S1536x4096.Idx => (code (xRow m c (i 0)) (i 1) : EReal) := by
  refine (dats m 0 c).arrAt_eq_of_covers 2 _ (by decide +kernel) fun t hf y => ?_
  blk_simp
  rw [after0_2]
  unfold_out out0_2
  frame_out
  change S1536x4096.Idx at y
  idx_vars y
  refine (code_at _ _ _).trans ?_
  simp only [blk0_0]
  have h : ((View.whole main_v1_0).slice (win0_2.rect t)).emb (ix2 y0 y1) = ix2 y0 y1 := by
    blk_ext [idx0 t]
  rw [h]
  rfl

/-- The scale array after the region. -/
theorem scale_arr : (dats m 0 c).arrAt 3 cfg0.N = fun i : S1536x1.Idx => (scaleOf (amax (xRow m c (i 0))) : EReal) := by
  refine (dats m 0 c).arrAt_eq_of_covers 3 _ (by decide +kernel) fun t hf y => ?_
  blk_simp
  rw [after0_3]
  unfold_out out0_3
  frame_out
  change S1536x1.Idx at y
  idx_vars y
  obtain rfl : y1 = 0 := Subsingleton.elim _ _
  refine (scale_at _ _).trans ?_
  simp only [blk0_0]
  have h : ((View.whole main_v1_1).slice (win0_3.rect t)).emb (ix2 y0 0) = ix2 y0 0 := by
    blk_ext [idx0 t]
  rw [h]
  rfl

/-- The product array after the region. -/
theorem product_arr : (dats m 0 c).arrAt 4 cfg0.N
    = fun i : S1536x11008.Idx => (∑ k : Fin 4096, code (xRow m c (i 0)) k * wCol m c (i 1) k : EReal) := by
  refine (dats m 0 c).arrAt_eq_of_covers 4 _ (by decide +kernel) fun t hf y => ?_
  blk_simp
  rw [after0_4]
  unfold_out out0_4
  frame_out
  change S1536x11008.Idx at y
  idx_vars y
  refine (product_at _ _ _ _ _ _).trans ?_
  have h : ((View.whole main_v1_2).slice (win0_4.rect t)).emb (ix2 y0 y1) = ix2 y0 y1 := by
    blk_ext [idx0 t]
  rw [h]
  refine Finset.sum_congr rfl fun k _ => congrArg₂ _ ?_ (blk0_1 m c t k y1)
  refine (code_at _ _ _).trans ?_
  simp only [blk0_0]
  rfl

end Cert.ReferenceIdeal.Value

end
-- ==== Proof.ReferenceGather.lean ====
/- The reference's choice of two probabilities for each token, read at an index. -/
module

public import proofs.«01_k».proof.Proof.Args
public import proofs.«01_k».proof.Proof.Gen.ReferenceIdeal.Frame
public import Idealize.ShloMosaic.Lib.Pointwise
public import Idealize.ShloMosaic.PureOps.Ideal.Laws

@[expose] public section

set_option maxRecDepth 16384

noncomputable section

namespace Cert.ReferenceIdeal.Value

open Cert.ReferenceIdeal Cert.ReferenceIdeal.Gen Cert.Value
open Idealize.ShloMosaic

/-- Where the index word is `e`, the gather reads expert `e`'s entry of the token. -/
theorem gather_at {α : Type} (x : S4x384x8.Idx → α) (idx : IVec S4x384x2x1 32) (b : Fin 4) (s : Fin 384) (k : Fin 2) (e : Fin 8)
    (he : idx (ix4 b s k (0 : Fin 1)) = BitVec.ofNat 32 e.val) :
    Host.gather gather_S4x384x8_S4x384x2x1_S4x384x2_n_2_01_01_2_3_111 x idx (ix3 b s k) = x (ix3 b s e) := by
  unfold Host.gather
  congr 1
  funext a
  refine Fin.ext ?_
  generalize hd : gather_S4x384x8_S4x384x2x1_S4x384x2_n_2_01_01_2_3_111 = d
  show d.start (ix3 b s k) idx a + d.batchCoord (ix3 b s k) a + d.offCoord (ix3 b s k) a = _
  subst hd
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide))]
    simp only [Nat.zero_add, Nat.add_zero]
    unfold GatherDims.batchCoord
    rw [dif_pos (show (0 : Fin 3) ∈ gather_S4x384x8_S4x384x2x1_S4x384x2_n_2_01_01_2_3_111.operandBatchingDims from (by decide : (0 : Fin 3) ∈ [0, 1]))]
    rfl
  · rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide))]
    simp only [Nat.zero_add, Nat.add_zero]
    unfold GatherDims.batchCoord
    rw [dif_pos (show (1 : Fin 3) ∈ gather_S4x384x8_S4x384x2x1_S4x384x2_n_2_01_01_2_3_111.operandBatchingDims from (by decide : (1 : Fin 3) ∈ [0, 1]))]
    rfl
  · rw [GatherDims.batchCoord_eq_zero _ _ _ (show (2 : Fin 3) ∉ [0, 1] by decide),
      GatherDims.offCoord_eq_zero _ _ _ (fun h => ((GatherDims.mem_sKept _ _).mp h).1 (show (2 : Fin 3) ∈ [2] by decide))]
    simp only [Nat.add_zero]
    unfold GatherDims.start
    rw [dif_pos (show (2 : Fin 3) ∈ gather_S4x384x8_S4x384x2x1_S4x384x2_n_2_01_01_2_3_111.startIndexMap from (by decide : (2 : Fin 3) ∈ [2]))]
    have hsi : gather_S4x384x8_S4x384x2x1_S4x384x2_n_2_01_01_2_3_111.siIdx (ix3 b s k)
        ⟨List.idxOf (2 : Fin 3) gather_S4x384x8_S4x384x2x1_S4x384x2_n_2_01_01_2_3_111.startIndexMap,
          List.idxOf_lt_length_iff.2 (show (2 : Fin 3) ∈ [2] by decide)⟩ = ix4 b s k (0 : Fin 1) := by
      funext q
      refine Fin.ext ?_
      match q with
      | ⟨0, _⟩ => rfl
      | ⟨1, _⟩ => rfl
      | ⟨2, _⟩ => rfl
      | ⟨3, _⟩ => rfl
    rw [hsi, he]
    have h8 : ∀ e : Fin 8, min (BitVec.ofNat 32 e.val).toInt.toNat (8 - 1) = e.val := by decide
    exact h8 e

/-- The probability chosen by the word of `e` is expert `e`'s. -/
theorem pick_word (p : Fin 8 → EReal) (e : Fin 8) : pick p (BitVec.ofNat 32 e.val) = p e := by
  unfold pick
  have h : ∀ e' e : Fin 8, BitVec.ofNat 32 e'.val = BitVec.ofNat 32 e.val ↔ e' = e := by decide
  simp only [h]
  rw [Finset.sum_ite_eq' Finset.univ e p, if_pos (Finset.mem_univ e)]

/-- An index word of an expert passes the range test and is left as it is. -/
theorem word_kept : ∀ e : Fin 8, Scalar.select (IntOp.cmpi .slt (BitVec.ofNat 32 e.val) 0#32)
    (IntOp.addi (BitVec.ofNat 32 e.val) 8#32) (BitVec.ofNat 32 e.val) = BitVec.ofNat 32 e.val := by decide +kernel

/-- The gather's check of its index words holds for an expert's number. -/
theorem word_in : ∀ e : Fin 8, Finset.univ.fold IntOp.andi (1#1) (fun _ : Fin 1 => IntOp.andi
    (IntOp.cmpi .sge (BitVec.ofNat 32 e.val) 0#32) (IntOp.cmpi .sle (BitVec.ofNat 32 e.val) 7#32)) = 1#1 := by decide +kernel

end Cert.ReferenceIdeal.Value

end
-- ==== Proof.ReferenceTail.lean ====
/- What the reference's host operations after the region compute, list by list, read at an index from what the list is entered with. -/
module

public import proofs.«01_k».proof.Proof.ReferenceGather
public import proofs.«01_k».proof.Proof.Gen.ReferenceIdeal.Frame
public import Idealize.ShloMosaic.Lib.StableHlo.ReadAt
public import Idealize.ShloMosaic.Lib.Pipeline.ValueKit

@[expose] public section

set_option maxRecDepth 16384

noncomputable section

namespace Cert.ReferenceIdeal.Value

open Cert.ReferenceIdeal Cert.ReferenceIdeal.Gen Cert.Value
open Idealize.ShloMosaic Idealize.ShloMosaic.TcCoe

variable (W : Valuation τ sig (Elt Ideal)) (b : Fin 4) (s : Fin 384)

/-- The row of the token at position `s` of sequence `b`. -/
abbrev rowOf : Fin 1536 := ⟨b.val * 384 + s.val, by omega⟩

/-- What the lists read, as arrays of extended reals. -/
abbrev xAt (k : Fin 4096) : EReal := W (Proc.devRef .tc main_arg0) (ix3 b s k)
/-- The scale of column `n`. -/
abbrev wsAt (n : Fin 11008) : EReal := W (Proc.devRef .tc main_arg2) (ix1 n)
/-- The router's weights. -/
abbrev rwAt (k : Fin 4096) (e : Fin 8) : EReal := W (Proc.devRef .tc main_arg3) (ix2 k e)
/-- The router's bias. -/
abbrev rbAt (e : Fin 8) : EReal := W (Proc.devRef .tc main_arg4) (ix1 e)
/-- The index words of the token. -/
abbrev idxAt (k : Fin 2) : BitVec 32 := W (Proc.devRef .tc main_arg5) (ix3 b s k)
/-- Column `r` of expert `e`'s down-projection. -/
abbrev laAt (e : Fin 8) (r : Fin 16) (k : Fin 4096) : EReal := W (Proc.devRef .tc main_arg6) (ix3 e k r)
/-- Expert `e`'s up-projection. -/
abbrev lbAt (e : Fin 8) (r : Fin 16) (n : Fin 11008) : EReal := W (Proc.devRef .tc main_arg7) (ix3 e r n)
/-- Column `r` of the shared down-projection. -/
abbrev saAt (r : Fin 16) (k : Fin 4096) : EReal := W (Proc.devRef .tc main_arg8) (ix2 k r)
/-- The shared up-projection. -/
abbrev sbAt (r : Fin 16) (n : Fin 11008) : EReal := W (Proc.devRef .tc main_arg9) (ix2 r n)
/-- The product of codes and weights. -/
abbrev accAt (n : Fin 11008) : EReal := W (Proc.devRef .tc main_v1_2) (ix2 (rowOf b s) n)
/-- The scale of the token. -/
abbrev scaleAt : EReal := W (Proc.devRef .tc main_v1_1) (ix2 (rowOf b s) (0 : Fin 1))
/-- The base product, scaled. -/
abbrev baseAt (n : Fin 11008) : EReal := W (Proc.devRef .tc main_v10) (ix3 b s n)
/-- The probabilities of the token. -/
abbrev probAt (e : Fin 8) : EReal := W (Proc.devRef .tc main_v25) (ix3 b s e)
/-- The probabilities of the two choices. -/
abbrev pickAt (k : Fin 2) : EReal := W (Proc.devRef .tc main_v26) (ix3 b s k)
/-- The gates of the two choices. -/
abbrev gateAt (k : Fin 2) : EReal := W (Proc.devRef .tc main_v31) (ix3 b s k)
/-- The one-hot rows of the two choices. -/
abbrev hotAt (k : Fin 2) (e : Fin 8) : EReal := W (Proc.devRef .tc main_v32) (ix4 b s k e)

/-- The codes, one sequence after the other. -/
theorem v2_at (k : Fin 4096) :
    StableHlo.after hostOps1 W (Proc.devRef .tc main_v2) (ix3 b s k) = W (Proc.devRef .tc main_v1_0) (ix2 (rowOf b s) k) := by
  after_reads_at

/-- The scales. -/
theorem v3_at :
    StableHlo.after hostOps1 W (Proc.devRef .tc main_v3) (ix2 b s) = W (Proc.devRef .tc main_v1_1) (ix2 (rowOf b s) (0 : Fin 1)) := by
  after_reads_at

/-- The base product, scaled. -/
theorem v10_at (n : Fin 11008) :
    StableHlo.after hostOps1 W (Proc.devRef .tc main_v10) (ix3 b s n) = (accAt W b s n * scaleAt W b s * wsAt W n : EReal) := by
  after_reads_at
  first | done | rfl

/-- The logits. -/
theorem v14_at (e : Fin 8) :
    StableHlo.after hostOps1 W (Proc.devRef .tc main_v14) (ix3 b s e) = logit (xAt W b s) (rwAt W) (rbAt W) e := by
  unfold logit
  after_reads_at
  first | done | rfl

/-- The gates. -/
theorem v31_at (k : Fin 2) :
    StableHlo.after hostOps1_2 W (Proc.devRef .tc main_v31) (ix3 b s k)
      = Ideal.div (pickAt W b s k) (pickAt W b s 0 + pickAt W b s 1) := by
  after_reads_at
  first | done | rfl

/-- The unsigned reading of a comparison's bit: one where it holds, zero elsewhere. -/
theorem uitofp_eq (i j : BitVec 32) :
    (FloatOps.uitofp .f32 (IntOp.cmpi .eq i j) : Ideal .f32) = (if j = i then 1 else 0 : EReal) := by
  have h1 : IntOp.cmpi .eq i j = BitVec.ofBool (i == j) := rfl
  rw [h1]
  by_cases h : j = i
  · rw [if_pos h, h, beq_self_eq_true]
    change (((BitVec.ofBool true).toNat : ℝ) : EReal) = 1
    norm_num <;> rfl
  · rw [if_neg h, beq_eq_false_iff_ne.mpr (Ne.symm h)]
    change (((BitVec.ofBool false).toNat : ℝ) : EReal) = 0
    norm_num <;> rfl

/-- The one-hot array. -/
theorem v32_at (k : Fin 2) (e : Fin 8) :
    StableHlo.after hostOps1_3 W (Proc.devRef .tc main_v32) (ix4 b s k e)
      = (if BitVec.ofNat 32 e.val = idxAt W b s k then 1 else 0 : EReal) := by
  after_reads_at
  exact uitofp_eq _ _

/-- The probabilities. -/
theorem v25_at (e : Fin 8) :
    StableHlo.after hostOps1 W (Proc.devRef .tc main_v25) (ix3 b s e) = prob (logit (xAt W b s) (rwAt W) (rbAt W)) e := by
  after_reads_at
  rw [ofBits_f32_bot]
  simp only [bot_le, max_eq_right]
  rfl

/-- The output. -/
theorem v52_at (n : Fin 11008) :
    StableHlo.after hostOps1_4 W (Proc.devRef .tc main_v52) (ix3 b s n)
      = (baseAt W b s n + (∑ e : Fin 8, ∑ r : Fin 16, down (xAt W b s) (laAt W e r)
          * ((∑ k : Fin 2, hotAt W b s k e * gateAt W b s k) * Ideal.ofBits .f32 0x40000000#32) * lbAt W e r n)
        + ∑ r : Fin 16, down (xAt W b s) (saAt W r) * Ideal.ofBits .f32 0x40000000#32 * sbAt W r n : EReal) := by
  after_reads_at
  rfl

/-- The chosen probabilities, where the index words are experts' numbers. -/
theorem v26_at (k : Fin 2) (e : Fin 8) (he : idxAt W b s k = BitVec.ofNat 32 e.val) :
    StableHlo.after hostOps1_1 W (Proc.devRef .tc main_v26) (ix3 b s k) = pick (probAt W b s) (idxAt W b s k) := by
  rw [he, pick_word]
  after_reads_at
  have he' : W (Proc.devRef .tc main_arg5) (ix3 b s k) = BitVec.ofNat 32 e.val := he
  rw [gather_at _ _ b s k e (by
    change Scalar.select (IntOp.cmpi .slt (W (Proc.devRef .tc main_arg5) (ix3 b s k)) 0#32)
      (IntOp.addi (W (Proc.devRef .tc main_arg5) (ix3 b s k)) 8#32) (W (Proc.devRef .tc main_arg5) (ix3 b s k)) = _
    rw [he', word_kept])]
  simp only [he', word_kept, word_in]
  rfl

end Cert.ReferenceIdeal.Value

end
-- ==== Proof.ReferenceValue.lean ====
/- The reference's four results as functions of its ten arguments, where the index words are experts' numbers. -/
module

public import proofs.«01_k».proof.Proof.ReferenceArrays
public import proofs.«01_k».proof.Proof.ReferenceTail

@[expose] public section

set_option maxRecDepth 16384

noncomputable section

namespace Cert.ReferenceIdeal.Value

open Cert.ReferenceIdeal Cert.ReferenceIdeal.Gen Cert.Value
open Idealize.ShloMosaic Idealize.ShloMosaic.TcCoe Idealize.SL.Sem

variable (m : (ℓ : Loc nD τ sig) → Buf (Elt Ideal) ℓ) (ρ : Dev nD → PrngReg) (c : Dev nD)

/-- A device's arguments. -/
def args : Args where
  x b s k := m ((c : Thread nD τ).loc main_arg0) (ix3 b s k)
  w k n := m ((c : Thread nD τ).loc main_arg1) (ix2 k n)
  ws n := m ((c : Thread nD τ).loc main_arg2) (ix1 n)
  rw k e := m ((c : Thread nD τ).loc main_arg3) (ix2 k e)
  rb e := m ((c : Thread nD τ).loc main_arg4) (ix1 e)
  idx b s k := m ((c : Thread nD τ).loc main_arg5) (ix3 b s k)
  la e k r := m ((c : Thread nD τ).loc main_arg6) (ix3 e k r)
  lb e r n := m ((c : Thread nD τ).loc main_arg7) (ix3 e r n)
  sa k r := m ((c : Thread nD τ).loc main_arg8) (ix2 k r)
  sb r n := m ((c : Thread nD τ).loc main_arg9) (ix2 r n)

/-! ## The contents between the lists of host operations -/

/-- When the region ends. -/
def E0 : Valuation τ sig (Elt Ideal) := Pipeline.withArrays spec0 c (V0 m c) fun w => (dats m 0 c).arrAt w cfg0.N
/-- After each list. -/
def E1 : Valuation τ sig (Elt Ideal) := StableHlo.after hostOps1 (E0 m c)
/-- The contents after the second list of host operations. -/
def E2 : Valuation τ sig (Elt Ideal) := StableHlo.after hostOps1_1 (E1 m c)
/-- The contents after the third list. -/
def E3 : Valuation τ sig (Elt Ideal) := StableHlo.after hostOps1_2 (E2 m c)
/-- The contents after the fourth list. -/
def E4 : Valuation τ sig (Elt Ideal) := StableHlo.after hostOps1_3 (E3 m c)
/-- The contents after the fifth list. -/
def E5 : Valuation τ sig (Elt Ideal) := StableHlo.after hostOps1_4 (E4 m c)

/-- The lists in one go are the lists one after the other. -/
theorem tail_eq (r : Ref sig .tc) :
    Pipeline.afterTail₀ cfgs (dats m) 0 (V0 m) [hostOps1, hostOps1_1, hostOps1_2, hostOps1_3, hostOps1_4] c r = E5 m c (Proc.devRef .tc r) := by
  unfold Pipeline.afterTail₀
  rw [List.flatten_cons, List.flatten_cons, List.flatten_cons, List.flatten_cons, List.flatten_cons, List.flatten_nil, List.append_nil,
    StableHlo.after_append, StableHlo.after_append, StableHlo.after_append, StableHlo.after_append]
  rfl

/-- A buffer that a list does not write keeps its contents. -/
theorem E1_of (r : Ref sig .tc) (h : r ∉ hostOps1_W) : E1 m c (Proc.devRef .tc r) = E0 m c (Proc.devRef .tc r) :=
  StableHlo.after_of_writes_sub hostOps1 _ hostOps1_writes h
/-- The second list leaves what it does not write. -/
theorem E2_of (r : Ref sig .tc) (h : r ∉ hostOps1_1_W) : E2 m c (Proc.devRef .tc r) = E1 m c (Proc.devRef .tc r) :=
  StableHlo.after_of_writes_sub hostOps1_1 _ hostOps1_1_writes h
/-- The third list leaves what it does not write. -/
theorem E3_of (r : Ref sig .tc) (h : r ∉ hostOps1_2_W) : E3 m c (Proc.devRef .tc r) = E2 m c (Proc.devRef .tc r) :=
  StableHlo.after_of_writes_sub hostOps1_2 _ hostOps1_2_writes h
/-- The fourth list leaves what it does not write. -/
theorem E4_of (r : Ref sig .tc) (h : r ∉ hostOps1_3_W) : E4 m c (Proc.devRef .tc r) = E3 m c (Proc.devRef .tc r) :=
  StableHlo.after_of_writes_sub hostOps1_3 _ hostOps1_3_writes h
/-- The fifth list leaves what it does not write. -/
theorem E5_of (r : Ref sig .tc) (h : r ∉ hostOps1_4_W) : E5 m c (Proc.devRef .tc r) = E4 m c (Proc.devRef .tc r) :=
  StableHlo.after_of_writes_sub hostOps1_4 _ hostOps1_4_writes h

/-- When the region ends, its arrays hold what it leaves and every other buffer what it held. -/
theorem E0_arr (w : Fin cfg0.W) : E0 m c (Proc.devRef .tc (Pipeline.arrRef spec0 w)) = (dats m 0 c).arrAt w cfg0.N := by
  unfold E0; exact Pipeline.withArrays_arr spec0 launch0.win.arr_inj c _ _ w
/-- The region leaves what is not one of its arrays. -/
theorem E0_of (r : Ref sig .tc) (h : ∀ w, Pipeline.arrRef spec0 w ≠ r) : E0 m c (Proc.devRef .tc r) = V m c r := by
  unfold E0; exact Pipeline.withArrays_of_ne spec0 c _ _ r h

/-- From the region's end to the last list but one, a buffer that no list writes. -/
theorem E4_E0 (r : Ref sig .tc) (h1 : r ∉ hostOps1_W) (h2 : r ∉ hostOps1_1_W) (h3 : r ∉ hostOps1_2_W) (h4 : r ∉ hostOps1_3_W) :
    E4 m c (Proc.devRef .tc r) = E0 m c (Proc.devRef .tc r) :=
  (E4_of m c r h4).trans ((E3_of m c r h3).trans ((E2_of m c r h2).trans (E1_of m c r h1)))

/-! ## The region's arrays in the arguments -/

/-- The flattened tokens are the tokens. -/
theorem v0_at (b : Fin 4) (s : Fin 384) (k : Fin 4096) :
    V m c main_v0 (ix2 (rowOf b s) k) = m ((c : Thread nD τ).loc main_arg0) (ix3 b s k) := by
  have h1 : ∀ h, (⟨(b.val * 384 + s.val) / 384, h⟩ : Fin 4) = b := fun h => Fin.ext (by simp only []; omega)
  have h2 : ∀ h, (⟨(b.val * 384 + s.val) % 384, h⟩ : Fin 384) = s := fun h => Fin.ext (by simp only []; omega)
  unfold V V0
  after_reads_at
  rw [h1, h2]

/-- A row of the flattened tokens is a token. -/
theorem xRow_eq (b : Fin 4) (s : Fin 384) : xRow m c (rowOf b s) = (args m c).x b s := funext fun k => v0_at m c b s k

/-- A column of the weights is that of the arguments. -/
theorem wCol_eq (n : Fin 11008) : wCol m c n = fun k => (args m c).w k n :=
  funext fun k => congrFun (V_main_arg1 m c) (ix2 k n)

/-- The product the region leaves, from the arguments. -/
theorem acc_eq (b : Fin 4) (s : Fin 384) (n : Fin 11008) :
    accAt (E0 m c) b s n = ∑ k, code ((args m c).x b s) k * (args m c).w k n := by
  have h : (E0 m c (Proc.devRef .tc main_v1_2) : S1536x11008.Idx → EReal) = _ := (E0_arr m c 4).trans (product_arr m c)
  refine (congrFun h (ix2 (rowOf b s) n)).trans ?_
  change (∑ k : Fin 4096, code (xRow m c (rowOf b s)) k * wCol m c n k) = _
  rw [xRow_eq, wCol_eq]

/-- The scale the region leaves, from the arguments. -/
theorem scale_eq (b : Fin 4) (s : Fin 384) : scaleAt (E0 m c) b s = scaleOf (amax ((args m c).x b s)) := by
  have h : (E0 m c (Proc.devRef .tc main_v1_1) : S1536x1.Idx → EReal) = _ := (E0_arr m c 3).trans (scale_arr m c)
  rw [← xRow_eq m]
  exact congrFun h (ix2 (rowOf b s) 0)

/-! ## The arguments as the lists find them -/

/-- The tokens are still the arguments after the region. -/
theorem x0 (b : Fin 4) (s : Fin 384) : xAt (E0 m c) b s = (args m c).x b s :=
  funext fun k => congrFun ((E0_of m c main_arg0 (by decide)).trans (V_main_arg0 m c)) (ix3 b s k)
/-- The columns' scales are still the arguments after the region. -/
theorem ws0 (n : Fin 11008) : wsAt (E0 m c) n = (args m c).ws n :=
  congrFun ((E0_of m c main_arg2 (by decide)).trans (V_main_arg2 m c)) (ix1 n)
/-- The router's weights are still the arguments after the region. -/
theorem rw0 : rwAt (E0 m c) = (args m c).rw :=
  funext fun k => funext fun e => congrFun ((E0_of m c main_arg3 (by decide)).trans (V_main_arg3 m c)) (ix2 k e)
/-- The router's bias is still the argument after the region. -/
theorem rb0 : rbAt (E0 m c) = (args m c).rb :=
  funext fun e => congrFun ((E0_of m c main_arg4 (by decide)).trans (V_main_arg4 m c)) (ix1 e)
/-- The index words are still the arguments after the first list. -/
theorem idx1 (b : Fin 4) (s : Fin 384) : idxAt (E1 m c) b s = (args m c).idx b s :=
  funext fun k => congrFun ((E1_of m c main_arg5 (by decide)).trans ((E0_of m c main_arg5 (by decide)).trans (V_main_arg5 m c))) (ix3 b s k)
/-- The index words are still the arguments after the third list. -/
theorem idx3 (b : Fin 4) (s : Fin 384) : idxAt (E3 m c) b s = (args m c).idx b s := by
  refine Eq.trans (funext fun k => ?_) (idx1 m c b s)
  exact congrFun ((E3_of m c main_arg5 (by decide)).trans (E2_of m c main_arg5 (by decide))) (ix3 b s k)
/-- The tokens are still the arguments after the fourth list. -/
theorem x4 (b : Fin 4) (s : Fin 384) : xAt (E4 m c) b s = (args m c).x b s := by
  refine Eq.trans (funext fun k => ?_) (x0 m c b s)
  exact congrFun (E4_E0 m c main_arg0 (by decide) (by decide) (by decide) (by decide)) (ix3 b s k)
/-- The experts' down-projections are still the arguments after the fourth list. -/
theorem la4 (e : Fin 8) (r : Fin 16) : laAt (E4 m c) e r = fun k => (args m c).la e k r :=
  funext fun k => congrFun ((E4_E0 m c main_arg6 (by decide) (by decide) (by decide) (by decide)).trans
    ((E0_of m c main_arg6 (by decide)).trans (V_main_arg6 m c))) (ix3 e k r)
/-- The experts' up-projections are still the arguments after the fourth list. -/
theorem lb4 (e : Fin 8) (r : Fin 16) (n : Fin 11008) : lbAt (E4 m c) e r n = (args m c).lb e r n :=
  congrFun ((E4_E0 m c main_arg7 (by decide) (by decide) (by decide) (by decide)).trans
    ((E0_of m c main_arg7 (by decide)).trans (V_main_arg7 m c))) (ix3 e r n)
/-- The shared down-projection is still the argument after the fourth list. -/
theorem sa4 (r : Fin 16) : saAt (E4 m c) r = fun k => (args m c).sa k r :=
  funext fun k => congrFun ((E4_E0 m c main_arg8 (by decide) (by decide) (by decide) (by decide)).trans
    ((E0_of m c main_arg8 (by decide)).trans (V_main_arg8 m c))) (ix2 k r)
/-- The shared up-projection is still the argument after the fourth list. -/
theorem sb4 (r : Fin 16) (n : Fin 11008) : sbAt (E4 m c) r n = (args m c).sb r n :=
  congrFun ((E4_E0 m c main_arg9 (by decide) (by decide) (by decide) (by decide)).trans
    ((E0_of m c main_arg9 (by decide)).trans (V_main_arg9 m c))) (ix2 r n)

/-! ## The results -/

/-- The probabilities after the first list. -/
theorem prob_eq (b : Fin 4) (s : Fin 384) : probAt (E1 m c) b s = (args m c).probs b s := by
  funext e
  refine (v25_at (E0 m c) b s e).trans ?_
  rw [x0, rw0, rb0]
  rfl

/-- The base product after the first list. -/
theorem base_eq (b : Fin 4) (s : Fin 384) (n : Fin 11008) :
    baseAt (E4 m c) b s n = (∑ k, code ((args m c).x b s) k * (args m c).w k n) * scaleOf (amax ((args m c).x b s)) * (args m c).ws n := by
  refine (congrFun ((E4_of m c main_v10 (by decide)).trans ((E3_of m c main_v10 (by decide)).trans (E2_of m c main_v10 (by decide)))) (ix3 b s n)).trans ?_
  refine (v10_at (E0 m c) b s n).trans ?_
  rw [acc_eq, scale_eq, ws0]

/-- Every index word is the word of an expert's number. -/
def InRange : Prop := ∀ (b : Fin 4) (s : Fin 384) (k : Fin 2), ∃ e : Fin 8, (args m c).idx b s k = BitVec.ofNat 32 e.val

variable (hin : InRange m c)
include hin

/-- The chosen probabilities. -/
theorem pick_eq (b : Fin 4) (s : Fin 384) (k : Fin 2) : pickAt (E2 m c) b s k = pick ((args m c).probs b s) ((args m c).idx b s k) := by
  obtain ⟨e, he⟩ := hin b s k
  rw [← prob_eq, ← idx1]
  exact v26_at (E1 m c) b s k e (by rw [idx1]; exact he)

/-- The gates. -/
theorem gate_eq (b : Fin 4) (s : Fin 384) (k : Fin 2) : gateAt (E3 m c) b s k = (args m c).gates b s k := by
  refine (v31_at (E2 m c) b s k).trans ?_
  rw [pick_eq m c hin, pick_eq m c hin, pick_eq m c hin]
  rfl

/-- An expert's weight. -/
theorem weight_eq (b : Fin 4) (s : Fin 384) (e : Fin 8) :
    ∑ k : Fin 2, hotAt (E4 m c) b s k e * gateAt (E4 m c) b s k = weight ((args m c).probs b s) ((args m c).idx b s) e := by
  have hg : ∀ k, gateAt (E4 m c) b s k = gate ((args m c).probs b s) ((args m c).idx b s) k := fun k =>
    (congrFun (E4_of m c main_v31 (by decide)) (ix3 b s k)).trans (gate_eq m c hin b s k)
  have hh : ∀ k, hotAt (E4 m c) b s k e = if BitVec.ofNat 32 e.val = (args m c).idx b s k then 1 else 0 := fun k => by
    rw [← idx3]; exact v32_at (E3 m c) b s k e
  rw [Fin.sum_univ_two, hg, hg, hh, hh]
  unfold weight
  simp only [ite_mul, one_mul, zero_mul]

/-- The output. -/
theorem out_value (b : Fin 4) (s : Fin 384) (n : Fin 11008) : E5 m c (Proc.devRef .tc main_v52) (ix3 b s n) = (args m c).out b s n := by
  refine (v52_at (E4 m c) b s n).trans ?_
  unfold Args.out outElt
  rw [base_eq, x4]
  refine congrArg₂ _ (congrArg₂ _ rfl ?_) ?_
  · refine Finset.sum_congr rfl fun e _ => Finset.sum_congr rfl fun r _ => ?_
    rw [weight_eq m c hin, la4, lb4]
  · refine Finset.sum_congr rfl fun r _ => ?_
    rw [sa4, sb4]

/-- The gates. -/
theorem gates_value (b : Fin 4) (s : Fin 384) (k : Fin 2) : E5 m c (Proc.devRef .tc main_v31) (ix3 b s k) = (args m c).gates b s k :=
  (congrFun ((E5_of m c main_v31 (by decide)).trans (E4_of m c main_v31 (by decide))) (ix3 b s k)).trans (gate_eq m c hin b s k)

omit hin

/-- The codes. -/
theorem codes_value (b : Fin 4) (s : Fin 384) (k : Fin 4096) : E5 m c (Proc.devRef .tc main_v2) (ix3 b s k) = (args m c).codes b s k := by
  refine (congrFun ((E5_of m c main_v2 (by decide)).trans ((E4_of m c main_v2 (by decide)).trans ((E3_of m c main_v2 (by decide)).trans
    (E2_of m c main_v2 (by decide))))) (ix3 b s k)).trans ((v2_at (E0 m c) b s k).trans ?_)
  have h : (E0 m c (Proc.devRef .tc main_v1_0) : S1536x4096.Idx → EReal) = _ := (E0_arr m c 2).trans (codes_arr m c)
  unfold Args.codes
  rw [← xRow_eq m]
  exact congrFun h (ix2 (rowOf b s) k)

/-- The scales. -/
theorem scale_value (b : Fin 4) (s : Fin 384) : E5 m c (Proc.devRef .tc main_v3) (ix2 b s) = (args m c).scale b s :=
  (congrFun ((E5_of m c main_v3 (by decide)).trans ((E4_of m c main_v3 (by decide)).trans ((E3_of m c main_v3 (by decide)).trans
    (E2_of m c main_v3 (by decide))))) (ix2 b s)).trans ((v3_at (E0 m c) b s).trans (scale_eq m c b s))

/-- From any memory with zero counters every execution of the reference terminates, with its results at the contents
    after the last list. -/
theorem run : θ_run defs (onTc (τ := τ) (main (F := Ideal))) ⟨m, fun _ => 0, ρ⟩ (fun r => ∀ c : Dev nD,
      r.2.mem ((c.tc : Thread nD τ).loc main_v52) = E5 m c (Proc.devRef .tc main_v52)
      ∧ r.2.mem ((c.tc : Thread nD τ).loc main_v31) = E5 m c (Proc.devRef .tc main_v31)
      ∧ r.2.mem ((c.tc : Thread nD τ).loc main_v2) = E5 m c (Proc.devRef .tc main_v2)
      ∧ r.2.mem ((c.tc : Thread nD τ).loc main_v3) = E5 m c (Proc.devRef .tc main_v3)) :=
  (θ_run defs _ _).mono (fun _ h c =>
    ⟨((h c).2 main_v52 (Pipeline.mem_restRefs_of main_v52 (by decide) (by decide))).trans (tail_eq m c main_v52),
      ((h c).2 main_v31 (Pipeline.mem_restRefs_of main_v31 (by decide) (by decide))).trans (tail_eq m c main_v31),
      ((h c).2 main_v2 (Pipeline.mem_restRefs_of main_v2 (by decide) (by decide))).trans (tail_eq m c main_v2),
      ((h c).2 main_v3 (Pipeline.mem_restRefs_of main_v3 (by decide) (by decide))).trans (tail_eq m c main_v3)⟩) (run_main m ρ)

end Cert.ReferenceIdeal.Value

end
-- ==== Proof.Algebraic.lean ====
/- The kernel and the reference, on the extended reals and on the same arguments, leave the same four results, where the
   index words are experts' numbers. -/
module

public import proofs.«01_k».proof.Defs
public import proofs.«01_k».proof.Proof.KernelRun
public import proofs.«01_k».proof.Proof.KernelValue
public import proofs.«01_k».proof.Proof.ReferenceValue
public import proofs.«01_k».proof.Proof.Gen.Pre_experts_in_range
public import Idealize.ShloMosaic.Lib.Affine

@[expose] public section

set_option maxRecDepth 16384

noncomputable section

namespace Cert.Value

open Idealize.ShloMosaic Idealize.ShloMosaic.TcCoe Idealize.SL.Sem

/-- A word between 0 and 7, read signed, is the word of an expert's number. -/
theorem expert_of_range (w : BitVec 32) (h : IntOp.andi (IntOp.cmpi .sge w 0#32) (IntOp.cmpi .slt w 8#32) = 1#1) :
    ∃ e : Fin 8, w = BitVec.ofNat 32 e.val := by
  obtain ⟨h0, h1⟩ := IntOp.andi_eq_one.mp h
  have h0' : (0 : ℤ) ≤ w.toInt := IntOp.cmpi_sge.mp h0
  have h1' : w.toInt < 8 := IntOp.cmpi_slt.mp h1
  have hw : w.toNat < 8 := by
    rw [BitVec.toInt_eq_toNat_cond] at h0' h1'
    have hl : w.toNat < 2 ^ 32 := w.isLt
    split at h0' <;> omega
  exact ⟨⟨w.toNat, hw⟩, by simp⟩

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)

/-- The precondition says that every index word is the word of an expert's number. -/
theorem in_range (hpre : Cert.Pre_KernelIdeal_experts_in_range m) (c : Dev Cert.KernelIdeal.nD) (b : Fin 4) (s : Fin 384) (k : Fin 2) :
    ∃ e : Fin 8, (Cert.KernelIdeal.Value.args m c).idx b s k = BitVec.ofNat 32 e.val := by
  have h := congrFun (hpre c) (ix3 b s k)
  dsimp only [Cert.Pre_experts_in_range.fn] at h
  exact expert_of_range _ h

/-- The claim's conclusion about the results, device by device. -/
theorem results_agree (c : Dev Cert.KernelIdeal.nD) (ha : Cert.ReferenceIdeal.Value.args m' c = Cert.KernelIdeal.Value.args m c)
    (hin : Cert.ReferenceIdeal.Value.InRange m' c) :
    (Cert.ReferenceIdeal.Value.E5 m' c (Proc.devRef .tc Cert.ReferenceIdeal.main_v52) : Cert.ReferenceIdeal.S4x384x11008.Idx → EReal)
        = Cert.KernelIdeal.Gen.W5 m g c (Proc.devRef .tc Cert.KernelIdeal.main_v11)
    ∧ (Cert.ReferenceIdeal.Value.E5 m' c (Proc.devRef .tc Cert.ReferenceIdeal.main_v31) : Cert.ReferenceIdeal.S4x384x2.Idx → EReal)
        = Cert.KernelIdeal.Gen.W5 m g c (Proc.devRef .tc Cert.KernelIdeal.main_v12)
    ∧ (Cert.ReferenceIdeal.Value.E5 m' c (Proc.devRef .tc Cert.ReferenceIdeal.main_v2) : Cert.ReferenceIdeal.S4x384x4096.Idx → EReal)
        = Cert.KernelIdeal.Gen.W5 m g c (Proc.devRef .tc Cert.KernelIdeal.main_v13)
    ∧ (Cert.ReferenceIdeal.Value.E5 m' c (Proc.devRef .tc Cert.ReferenceIdeal.main_v3) : Cert.ReferenceIdeal.S4x384.Idx → EReal)
        = Cert.KernelIdeal.Gen.W5 m g c (Proc.devRef .tc Cert.KernelIdeal.main_v14) := by
  refine ⟨?_, ?_, ?_, ?_⟩
  · funext y
    idx_vars y
    exact (Cert.ReferenceIdeal.Value.out_value m' c hin y0 y1 y2).trans
      ((congrArg (fun a : Args => a.out y0 y1 y2) ha).trans (Cert.KernelIdeal.Value.out_value m g c y0 y1 y2).symm)
  · funext y
    idx_vars y
    exact (Cert.ReferenceIdeal.Value.gates_value m' c hin y0 y1 y2).trans
      ((congrArg (fun a : Args => a.gates y0 y1 y2) ha).trans (Cert.KernelIdeal.Value.gates_value m g c y0 y1 y2).symm)
  · funext y
    idx_vars y
    exact (Cert.ReferenceIdeal.Value.codes_value m' c y0 y1 y2).trans
      ((congrArg (fun a : Args => a.codes y0 y1 y2) ha).trans (Cert.KernelIdeal.Value.codes_value m g c y0 y1 y2).symm)
  · funext y
    idx_vars y
    exact (Cert.ReferenceIdeal.Value.scale_value m' c y0 y1).trans
      ((congrArg (fun a : Args => a.scale y0 y1) ha).trans (Cert.KernelIdeal.Value.scale_value m g c y0 y1).symm)

/-- THE VALUE CLAIM: the four results agree. -/
theorem algebraic : Cert.algebraic_KernelIdeal_ReferenceIdeal_pre_experts_in_range := by
  intro m g m' g' hpre hargs
  have ha : ∀ c : Dev Cert.KernelIdeal.nD, Cert.ReferenceIdeal.Value.args m' c = Cert.KernelIdeal.Value.args m c := fun c => by
    obtain ⟨h0, h1, h2, h3, h4, h5, h6, h7, h8, h9⟩ := hargs c
    unfold Cert.ReferenceIdeal.Value.args Cert.KernelIdeal.Value.args
    congr 1
    · funext b s k; exact congrFun h0 (ix3 b s k)
    · funext k n; exact congrFun h1 (ix2 k n)
    · funext n; exact congrFun h2 (ix1 n)
    · funext k e; exact congrFun h3 (ix2 k e)
    · funext e; exact congrFun h4 (ix1 e)
    · funext b s k; exact congrFun h5 (ix3 b s k)
    · funext e k r; exact congrFun h6 (ix3 e k r)
    · funext e r n; exact congrFun h7 (ix3 e r n)
    · funext k r; exact congrFun h8 (ix2 k r)
    · funext r n; exact congrFun h9 (ix2 r n)
  have hin : ∀ c : Dev Cert.KernelIdeal.nD, Cert.ReferenceIdeal.Value.InRange m' c := fun c b s k => by
    rw [ha c]; exact in_range m hpre c b s k
  have hr := fun c => results_agree m g m' c (ha c) (hin c)
  refine ⟨fun c => Cert.KernelIdeal.Gen.W5 m g c (Proc.devRef .tc Cert.KernelIdeal.main_v11),
    fun c => Cert.KernelIdeal.Gen.W5 m g c (Proc.devRef .tc Cert.KernelIdeal.main_v12),
    fun c => Cert.KernelIdeal.Gen.W5 m g c (Proc.devRef .tc Cert.KernelIdeal.main_v13),
    fun c => Cert.KernelIdeal.Gen.W5 m g c (Proc.devRef .tc Cert.KernelIdeal.main_v14), ?_, ?_⟩
  · refine (θ_run _ _ _).mono (fun r h c => ?_) (Cert.KernelIdeal.Value.run (F := Ideal) m g)
    exact ⟨h c Cert.KernelIdeal.main_v11 (by decide), h c Cert.KernelIdeal.main_v12 (by decide),
      h c Cert.KernelIdeal.main_v13 (by decide), h c Cert.KernelIdeal.main_v14 (by decide),
      (h c Cert.KernelIdeal.main_arg0 (by decide)).trans (Cert.KernelIdeal.Gen.W5_main_arg0 m g c),
      (h c Cert.KernelIdeal.main_arg1 (by decide)).trans (Cert.KernelIdeal.Gen.W5_main_arg1 m g c),
      (h c Cert.KernelIdeal.main_arg2 (by decide)).trans (Cert.KernelIdeal.Gen.W5_main_arg2 m g c),
      (h c Cert.KernelIdeal.main_arg3 (by decide)).trans (Cert.KernelIdeal.Gen.W5_main_arg3 m g c),
      (h c Cert.KernelIdeal.main_arg4 (by decide)).trans (Cert.KernelIdeal.Gen.W5_main_arg4 m g c),
      (h c Cert.KernelIdeal.main_arg5 (by decide)).trans (Cert.KernelIdeal.Gen.W5_main_arg5 m g c),
      (h c Cert.KernelIdeal.main_arg6 (by decide)).trans (Cert.KernelIdeal.Gen.W5_main_arg6 m g c),
      (h c Cert.KernelIdeal.main_arg7 (by decide)).trans (Cert.KernelIdeal.Gen.W5_main_arg7 m g c),
      (h c Cert.KernelIdeal.main_arg8 (by decide)).trans (Cert.KernelIdeal.Gen.W5_main_arg8 m g c),
      (h c Cert.KernelIdeal.main_arg9 (by decide)).trans (Cert.KernelIdeal.Gen.W5_main_arg9 m g c)⟩
  · refine (θ_run _ _ _).mono (fun r h c => ?_)
      (θ_run_and (Cert.ReferenceIdeal.Value.run m' g') (Cert.ReferenceIdeal.Gen.unchanged (F := Ideal) m' g'))
    obtain ⟨e0, e1, e2, e3⟩ := h.1 c
    obtain ⟨r0, r1, r2, r3⟩ := hr c
    exact ⟨e0.trans r0, e1.trans r1, e2.trans r2, e3.trans r3, h.2 c⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_experts_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the three frames (each with its counters at zero, and the two ideal ones again under the precondition), the
    passage from the kernel to its ideal form, which rewrites nothing, and the agreement of the four results
    (Proof/Algebraic.lean). -/
theorem claim : Cert.Claim := ⟨Cert.Kernel.Gen.facts, Cert.KernelIdeal.Gen.facts, Cert.ReferenceIdeal.Gen.facts, Cert.Pre_experts_in_range.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, Cert.Value.algebraic⟩

end Cert.Proof

end
